-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_colours_and_opacities_finite [hPre_colours_and_opacities_finite : Cert.Pre_colours_and_opacities_finite.Facts] (m : (ℓ : Loc Cert.KernelIdeal.nD Cert.KernelIdeal.τ Cert.KernelIdeal.sig) → Buf (Elt Ideal) ℓ) : Prop :=
  ∀ c : Dev Cert.KernelIdeal.nD,
    (Cert.Pre_colours_and_opacities_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_colours_and_opacities_finite [hPre_colours_and_opacities_finite : Cert.Pre_colours_and_opacities_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_colours_and_opacities_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_colours_and_opacities_finite [hKernelIdeal : Cert.KernelIdeal.Facts] [hPre_colours_and_opacities_finite : Cert.Pre_colours_and_opacities_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_colours_and_opacities_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_colours_and_opacities_finite [hReferenceIdeal : Cert.ReferenceIdeal.Facts] [hPre_colours_and_opacities_finite : Cert.Pre_colours_and_opacities_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_colours_and_opacities_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_colours_and_opacities_finite [hKernelIdeal : Cert.KernelIdeal.Facts] [hReferenceIdeal : Cert.ReferenceIdeal.Facts] [hPre_colours_and_opacities_finite : Cert.Pre_colours_and_opacities_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_colours_and_opacities_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_colours_and_opacities_finite : Cert.Pre_colours_and_opacities_finite.Facts),
    quiescent_Kernel (hKernel := hKernel)
    ∧ quiescent_KernelIdeal (hKernelIdeal := hKernelIdeal)
    ∧ quiescent_KernelIdeal_pre_colours_and_opacities_finite (hKernelIdeal := hKernelIdeal) (hPre_colours_and_opacities_finite := hPre_colours_and_opacities_finite)
    ∧ quiescent_ReferenceIdeal (hReferenceIdeal := hReferenceIdeal)
    ∧ quiescent_ReferenceIdeal_pre_colours_and_opacities_finite (hReferenceIdeal := hReferenceIdeal) (hPre_colours_and_opacities_finite := hPre_colours_and_opacities_finite)
    ∧ preserves_Kernel_KernelIdeal
    ∧ algebraic_KernelIdeal_ReferenceIdeal_pre_colours_and_opacities_finite (hKernelIdeal := hKernelIdeal) (hReferenceIdeal := hReferenceIdeal) (hPre_colours_and_opacities_finite := hPre_colours_and_opacities_finite)
-- ==== Pre_colours_and_opacities_finite.lean ====
abbrev S2048x3 : Shape := ⟨2, ![2048, 3]⟩
abbrev S2048x4 : Shape := ⟨2, ![2048, 4]⟩
abbrev S2048 : Shape := ⟨1, ![2048]⟩
abbrev S4x4 : Shape := ⟨2, ![4, 4]⟩
abbrev S_ : Shape := ⟨0, ![]⟩
abbrev S2048x1 : Shape := ⟨2, ![2048, 1]⟩

class Facts : Prop where
  bcast_S_S2048x3 : S_.BroadcastsInDim S2048x3 (![] : Fin 0 → Fin S2048x3.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x3_0_1 : S2048x1.BroadcastsInDim S2048x3 (![0, 1] : Fin 2 → Fin S2048x3.rank)

variable [Facts]

def fn {F : FTy → Type} [FloatOps F] (main_arg0 : FVec F S2048x3 .f32) (main_arg1 : FVec F S2048x3 .f32) (main_arg2 : FVec F S2048x4 .f32) (main_arg3 : FVec F S2048x3 .f32) (main_arg4 : FVec F S2048 .f32) (main_arg5 : FVec F S4x4 .f32) : IVec S2048x3 1 :=
  let main_v0 : FVec F S2048x3 .f32 := Host.absf main_arg3
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_v3 : FVec F S2048 .f32 := Host.absf main_arg4
  let main_v4 : FVec F S2048x1 .f32 := broadcastInDim S2048x1 ![0] bcast_S2048_S2048x1_0 main_v3
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_v7 : IVec S2048x3 1 := broadcastInDim S2048x3 ![0, 1] bcast_S2048x1_S2048x3_0_1 main_v6
  let main_v8 : IVec S2048x3 1 := andi main_v2 main_v7
  main_v8
-- ==== Kernel.lean ====
abbrev S2048x3 : Shape := ⟨2, ![2048, 3]⟩
abbrev S2048x4 : Shape := ⟨2, ![2048, 4]⟩
abbrev S2048 : Shape := ⟨1, ![2048]⟩
abbrev S4x4 : Shape := ⟨2, ![4, 4]⟩
abbrev S3x3 : Shape := ⟨2, ![3, 3]⟩
abbrev S3x1 : Shape := ⟨2, ![3, 1]⟩
abbrev S3 : Shape := ⟨1, ![3]⟩
abbrev S1x3 : Shape := ⟨2, ![1, 3]⟩
abbrev S3x2048 : Shape := ⟨2, ![3, 2048]⟩
abbrev S1x2048 : Shape := ⟨2, ![1, 2048]⟩
abbrev S10x2048 : Shape := ⟨2, ![10, 2048]⟩
abbrev S10x8x256 : Shape := ⟨3, ![10, 8, 256]⟩
abbrev S3x480x640 : Shape := ⟨3, ![3, 480, 640]⟩
abbrev S3x96x640 : Shape := ⟨3, ![3, 96, 640]⟩
abbrev S2048x11 : Shape := ⟨2, ![2048, 11]⟩
abbrev S1 : Shape := ⟨1, ![1]⟩
abbrev S8x1 : Shape := ⟨2, ![8, 1]⟩
abbrev S96x640 : Shape := ⟨2, ![96, 640]⟩
abbrev S_ : Shape := ⟨0, ![]⟩
abbrev S1x8x256 : Shape := ⟨3, ![1, 8, 256]⟩
abbrev S8x256 : Shape := ⟨2, ![8, 256]⟩
abbrev S8 : Shape := ⟨1, ![8]⟩
abbrev S11x2048 : Shape := ⟨2, ![11, 2048]⟩
abbrev S1x1 : Shape := ⟨2, ![1, 1]⟩
abbrev S1x640 : Shape := ⟨2, ![1, 640]⟩
abbrev S96x1 : Shape := ⟨2, ![96, 1]⟩
abbrev S1x11 : Shape := ⟨2, ![1, 11]⟩
abbrev S1x96x640 : Shape := ⟨3, ![1, 96, 640]⟩

abbrev nBuf : Space → Nat
  | .hbm => 21
  | .vmem => 7
  | .smem => 4
  | _ => 0

abbrev bufTy : (tb : Table) → Fin (tcTables nBuf tb) → BufTy
  | .hbm, ⟨0, _⟩ => ⟨S2048x3, .f32⟩
  | .hbm, ⟨1, _⟩ => ⟨S2048x3, .f32⟩
  | .hbm, ⟨2, _⟩ => ⟨S2048x4, .f32⟩
  | .hbm, ⟨3, _⟩ => ⟨S2048x3, .f32⟩
  | .hbm, ⟨4, _⟩ => ⟨S2048, .f32⟩
  | .hbm, ⟨5, _⟩ => ⟨S4x4, .f32⟩
  | .hbm, ⟨6, _⟩ => ⟨S3x3, .f32⟩
  | .hbm, ⟨7, _⟩ => ⟨S3x1, .f32⟩
  | .hbm, ⟨8, _⟩ => ⟨S3, .f32⟩
  | .hbm, ⟨9, _⟩ => ⟨S1x3, .f32⟩
  | .hbm, ⟨10, _⟩ => ⟨S2048x3, .f32⟩
  | .hbm, ⟨11, _⟩ => ⟨S2048x3, .f32⟩
  | .hbm, ⟨12, _⟩ => ⟨S3x3, .f32⟩
  | .hbm, ⟨13, _⟩ => ⟨S2048x3, .f32⟩
  | .hbm, ⟨14, _⟩ => ⟨S3x2048, .f32⟩
  | .hbm, ⟨15, _⟩ => ⟨S3x2048, .f32⟩
  | .hbm, ⟨16, _⟩ => ⟨S3x2048, .f32⟩
  | .hbm, ⟨17, _⟩ => ⟨S1x2048, .f32⟩
  | .hbm, ⟨18, _⟩ => ⟨S10x2048, .f32⟩
  | .hbm, ⟨19, _⟩ => ⟨S10x8x256, .f32⟩
  | .hbm, ⟨20, _⟩ => ⟨S3x480x640, .f32⟩
  | .local _ .vmem, ⟨0, _⟩ => ⟨S10x8x256, .f32⟩
  | .local _ .vmem, ⟨1, _⟩ => ⟨S3x96x640, .f32⟩
  | .local _ .vmem, ⟨2, _⟩ => ⟨S3x96x640, .f32⟩
  | .local _ .vmem, ⟨3, _⟩ => ⟨S2048x11, .f32⟩
  | .local _ .vmem, ⟨4, _⟩ => ⟨S96x640, .f32⟩
  | .local _ .vmem, ⟨5, _⟩ => ⟨S1x2048, .f32⟩
  | .local _ .vmem, ⟨6, _⟩ => ⟨S8x1, .f32⟩
  | .local _ .smem, ⟨0, _⟩ => ⟨S2048, .i32⟩
  | .local _ .smem, ⟨1, _⟩ => ⟨S1, .i32⟩
  | .local _ .smem, ⟨2, _⟩ => ⟨S1x2048, .f32⟩
  | .local _ .smem, ⟨3, _⟩ => ⟨S8x1, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch1 : Ref sig .tc := ⟨.smem, 0, rfl⟩
abbrev cc0_scratch2 : Ref sig .tc := ⟨.smem, 1, rfl⟩
abbrev cc0_scratch3 : Ref sig .tc := ⟨.smem, 2, rfl⟩
abbrev cc0_scratch4 : Ref sig .tc := ⟨.smem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_75 : BitVec 32 := 0#32
  let c8_i32 : BitVec 32 := 8#32
  let v152 : BitVec 32 := Scalar.addi c0_i32_75 c8_i32
  let c1_i32_76 : BitVec 32 := 1#32
  ⟨c0_i32_75, v152, c1_i32_76⟩
def k0_off1 (k0_t1 : Fin k0_t1_loop.trips) : Fin 2 → Nat :=
  let c0_i32_75 : BitVec 32 := 0#32
  let c1_i32_76 : BitVec 32 := 1#32
  let arg13 : BitVec 32 := Scf.iv c0_i32_75 c1_i32_76 k0_t1
  let v155 : Index := Scalar.indexCast arg13
  let c0_79 : Index := 0#32
  ![v155.toNat, 0]
@[reducible] def k0_t2_loop (k0_t1 : Fin k0_t1_loop.trips) : Scf.Loop 32 :=
  let c0_i32_75 : BitVec 32 := 0#32
  let c1_i32_76 : BitVec 32 := 1#32
  let arg13 : BitVec 32 := Scf.iv c0_i32_75 c1_i32_76 k0_t1
  let c256_i32 : BitVec 32 := 256#32
  let v161 : BitVec 32 := Scalar.muli arg13 c256_i32
  let c1_i32_82 : BitVec 32 := 1#32
  let v162 : BitVec 32 := Scalar.addi arg13 c1_i32_82
  let c256_i32_83 : BitVec 32 := 256#32
  let v163 : BitVec 32 := Scalar.muli v162 c256_i32_83
  let v164 : BitVec 32 := Scalar.subi v163 v161
  let c1_i32_84 : BitVec 32 := 1#32
  let v166 : BitVec 32 := Scalar.divsi v164 c1_i32_84
  let v167 : BitVec 32 := Scalar.muli v166 c1_i32_84
  let v168 : BitVec 32 := Scalar.addi v161 v167
  let c1_i32_85 : BitVec 32 := 1#32
  ⟨v161, v168, c1_i32_85⟩
def k0_off2 (k0_t1 : Fin k0_t1_loop.trips) (k0_t2 : Fin (k0_t2_loop k0_t1).trips) : Fin 2 → Nat :=
  let c0_87 : Index := 0#32
  let c0_i32_75 : BitVec 32 := 0#32
  let c1_i32_76 : BitVec 32 := 1#32
  let arg13 : BitVec 32 := Scf.iv c0_i32_75 c1_i32_76 k0_t1
  let c256_i32 : BitVec 32 := 256#32
  let v161 : BitVec 32 := Scalar.muli arg13 c256_i32
  let c1_i32_85 : BitVec 32 := 1#32
  let arg15 : BitVec 32 := Scf.iv v161 c1_i32_85 k0_t2
  let v171 : Index := Scalar.indexCast arg15
  ![0, v171.toNat]
def k0_off3 (arg16 : BitVec 32) : Fin 1 → Nat :=
  let v178 : Index := Scalar.indexCast arg16
  ![v178.toNat]
def k0_cond2 (v157 : BitVec 1) : BitVec 1 :=
  let v158 : BitVec 32 := Scalar.extui v157
  let c0_i32_81 : BitVec 32 := 0#32
  let v159 : BitVec 1 := Scalar.cmpi .ne v158 c0_i32_81
  v159

def k0_cond3 (v173 : BitVec 1) : BitVec 1 :=
  let v174 : BitVec 32 := Scalar.extui v173
  let c0_i32_89 : BitVec 32 := 0#32
  let v175 : BitVec 1 := Scalar.cmpi .ne v174 c0_i32_89
  v175

def k0_chk1 (i : grid0.Coords) (v157 : BitVec 1) (arg16 : BitVec 32) (v173 : BitVec 1) : Prop :=
  (∀ (k0_h1 : k0_cond1 i = 1#1), ∀ (k0_h2 : k0_cond2 v157 = 1#1), ∀ (k0_h3 : k0_cond3 v173 = 1#1), ∀ a, (k0_off3 arg16) a + S1.size a ≤ S2048.size a)
theorem k0_off3_inb : ∀ (i : grid0.Coords) (v157 : BitVec 1) (arg16 : BitVec 32) (v173 : BitVec 1) (k0_hw1 : k0_chk1 i v157 arg16 v173), ∀ (k0_h1 : k0_cond1 i = 1#1), ∀ (k0_h2 : k0_cond2 v157 = 1#1), ∀ (k0_h3 : k0_cond3 v173 = 1#1), ∀ a, (k0_off3 arg16) a + S1.size a ≤ S2048.size a := fun i v157 arg16 v173 k0_hw1 k0_h1 k0_h2 k0_h3 => k0_hw1 k0_h1 k0_h2 k0_h3

@[reducible] def k0_t3_loop (k0_t1 : Fin k0_t1_loop.trips) : Scf.Loop 32 :=
  let c0_i32_75 : BitVec 32 := 0#32
  let c1_i32_76 : BitVec 32 := 1#32
  let arg13 : BitVec 32 := Scf.iv c0_i32_75 c1_i32_76 k0_t1
  let c256_i32 : BitVec 32 := 256#32
  let v161 : BitVec 32 := Scalar.muli arg13 c256_i32
  let c1_i32_82 : BitVec 32 := 1#32
  let v162 : BitVec 32 := Scalar.addi arg13 c1_i32_82
  let c256_i32_83 : BitVec 32 := 256#32
  let v163 : BitVec 32 := Scalar.muli v162 c256_i32_83
  let v164 : BitVec 32 := Scalar.subi v163 v161
  let c1_i32_84 : BitVec 32 := 1#32
  let v166 : BitVec 32 := Scalar.divsi v164 c1_i32_84
  let v167 : BitVec 32 := Scalar.muli v166 c1_i32_84
  let v168 : BitVec 32 := Scalar.addi v161 v167
  let v165 : BitVec 32 := Scalar.addi v161 v164
  let c1_i32_86 : BitVec 32 := 1#32
  ⟨v168, v165, c1_i32_86⟩
def k0_off4 (k0_t1 : Fin k0_t1_loop.trips) (k0_t3 : Fin (k0_t3_loop k0_t1).trips) : Fin 2 → Nat :=
  let c0_87 : Index := 0#32
  let c0_i32_75 : BitVec 32 := 0#32
  let c1_i32_76 : BitVec 32 := 1#32
  let arg13 : BitVec 32 := Scf.iv c0_i32_75 c1_i32_76 k0_t1
  let c256_i32 : BitVec 32 := 256#32
  let v161 : BitVec 32 := Scalar.muli arg13 c256_i32
  let c1_i32_82 : BitVec 32 := 1#32
  let v162 : BitVec 32 := Scalar.addi arg13 c1_i32_82
  let c256_i32_83 : BitVec 32 := 256#32
  let v163 : BitVec 32 := Scalar.muli v162 c256_i32_83
  let v164 : BitVec 32 := Scalar.subi v163 v161
  let c1_i32_84 : BitVec 32 := 1#32
  let v166 : BitVec 32 := Scalar.divsi v164 c1_i32_84
  let v167 : BitVec 32 := Scalar.muli v166 c1_i32_84
  let v168 : BitVec 32 := Scalar.addi v161 v167
  let c1_i32_86 : BitVec 32 := 1#32
  let arg15 : BitVec 32 := Scf.iv v168 c1_i32_86 k0_t3
  let v171 : Index := Scalar.indexCast arg15
  ![0, v171.toNat]
def k0_off5 (arg16 : BitVec 32) : Fin 1 → Nat :=
  let v178 : Index := Scalar.indexCast arg16
  ![v178.toNat]
def k0_cond4 (v173 : BitVec 1) : BitVec 1 :=
  let v174 : BitVec 32 := Scalar.extui v173
  let c0_i32_89 : BitVec 32 := 0#32
  let v175 : BitVec 1 := Scalar.cmpi .ne v174 c0_i32_89
  v175

def k0_chk2 (i : grid0.Coords) (k0_t1 : Fin k0_t1_loop.trips) (v157 : BitVec 1) (k0_t3 : Fin (k0_t3_loop k0_t1).trips) (arg16 : BitVec 32) (v173 : BitVec 1) : Prop :=
  (∀ (k0_h1 : k0_cond1 i = 1#1), ∀ (k0_h2 : k0_cond2 v157 = 1#1), ∀ (k0_h4 : k0_cond4 v173 = 1#1), ∀ a, (k0_off5 arg16) a + S1.size a ≤ S2048.size a)
theorem k0_off5_inb : ∀ (i : grid0.Coords) (k0_t1 : Fin k0_t1_loop.trips) (v157 : BitVec 1) (k0_t3 : Fin (k0_t3_loop k0_t1).trips) (arg16 : BitVec 32) (v173 : BitVec 1) (k0_hw2 : k0_chk2 i k0_t1 v157 k0_t3 arg16 v173), ∀ (k0_h1 : k0_cond1 i = 1#1), ∀ (k0_h2 : k0_cond2 v157 = 1#1), ∀ (k0_h4 : k0_cond4 v173 = 1#1), ∀ a, (k0_off5 arg16) a + S1.size a ≤ S2048.size a := fun i k0_t1 v157 k0_t3 arg16 v173 k0_hw2 k0_h1 k0_h2 k0_h4 => k0_hw2 k0_h1 k0_h2 k0_h4

@[reducible] def k0_t4_loop (v19 : BitVec 32) : Scf.Loop 32 :=
  let c0_i32_9 : BitVec 32 := 0#32
  let v20 : BitVec 32 := Scalar.subi v19 c0_i32_9
  let c1_i32 : BitVec 32 := 1#32
  let v22 : BitVec 32 := Scalar.divsi v20 c1_i32
  let v23 : BitVec 32 := Scalar.muli v22 c1_i32
  let v24 : BitVec 32 := Scalar.addi c0_i32_9 v23
  let c1_i32_11 : BitVec 32 := 1#32
  ⟨c0_i32_9, v24, c1_i32_11⟩

def k0_off6 (v19 : BitVec 32) (k0_t4 : Fin (k0_t4_loop v19).trips) : Fin 1 → Nat :=
  let c1_i32_13 : BitVec 32 := 1#32
  let v27 : BitVec 32 := Scalar.subi v19 c1_i32_13
  let c0_i32_9 : BitVec 32 := 0#32
  let c1_i32_11 : BitVec 32 := 1#32
  let arg13 : BitVec 32 := Scf.iv c0_i32_9 c1_i32_11 k0_t4
  let v28 : BitVec 32 := Scalar.subi v27 arg13
  let v29 : Index := Scalar.indexCast v28
  ![v29.toNat]
def k0_off7 (v30 : BitVec 32) : Fin 2 → Nat :=
  let c0_14 : Index := 0#32
  let v31 : Index := Scalar.indexCast v30
  ![0, v31.toNat]

def k0_chk4 (v30 : BitVec 32) : Prop :=
  (∀ a, (k0_off7 v30) a + S1x1.size a ≤ S1x2048.size a)
theorem k0_off7_inb : ∀ (v30 : BitVec 32) (k0_hw4 : k0_chk4 v30), ∀ a, (k0_off7 v30) a + S1x1.size a ≤ S1x2048.size a := fun v30 k0_hw4 => k0_hw4

def k0_off8 (v30 : BitVec 32) : Fin 2 → Nat :=
  let v44 : Index := Scalar.indexCast v30
  let c0_21 : Index := 0#32
  ![v44.toNat, 0]
def k0_cond5 (v38 : BitVec 1) (v40 : BitVec 1) : BitVec 1 :=
  let v41 : BitVec 1 := Scalar.andi v38 v40
  let v42 : BitVec 32 := Scalar.extui v41
  let c0_i32_19 : BitVec 32 := 0#32
  let v43 : BitVec 1 := Scalar.cmpi .ne v42 c0_i32_19
  v43

def k0_chk5 (v30 : BitVec 32) (v38 : BitVec 1) (v40 : BitVec 1) : Prop :=
  (∀ (k0_h5 : k0_cond5 v38 v40 = 1#1), ∀ a, (k0_off8 v30) a + S1x11.size a ≤ S2048x11.size a)
theorem k0_off8_inb : ∀ (v30 : BitVec 32) (v38 : BitVec 1) (v40 : BitVec 1) (k0_hw5 : k0_chk5 v30 v38 v40), ∀ (k0_h5 : k0_cond5 v38 v40 = 1#1), ∀ a, (k0_off8 v30) a + S1x11.size a ≤ S2048x11.size a := fun v30 v38 v40 k0_hw5 k0_h5 => k0_hw5 k0_h5

@[reducible] def k0_t5_loop (v19 : BitVec 32) : Scf.Loop 32 :=
  let c0_i32_9 : BitVec 32 := 0#32
  let v20 : BitVec 32 := Scalar.subi v19 c0_i32_9
  let c1_i32 : BitVec 32 := 1#32
  let v22 : BitVec 32 := Scalar.divsi v20 c1_i32
  let v23 : BitVec 32 := Scalar.muli v22 c1_i32
  let v24 : BitVec 32 := Scalar.addi c0_i32_9 v23
  let v21 : BitVec 32 := Scalar.addi c0_i32_9 v20
  let c1_i32_12 : BitVec 32 := 1#32
  ⟨v24, v21, c1_i32_12⟩
def k0_off9 (v19 : BitVec 32) (k0_t5 : Fin (k0_t5_loop v19).trips) : Fin 1 → Nat :=
  let c1_i32_13 : BitVec 32 := 1#32
  let v27 : BitVec 32 := Scalar.subi v19 c1_i32_13
  let c0_i32_9 : BitVec 32 := 0#32
  let v20 : BitVec 32 := Scalar.subi v19 c0_i32_9
  let c1_i32 : BitVec 32 := 1#32
  let v22 : BitVec 32 := Scalar.divsi v20 c1_i32
  let v23 : BitVec 32 := Scalar.muli v22 c1_i32
  let v24 : BitVec 32 := Scalar.addi c0_i32_9 v23
  let c1_i32_12 : BitVec 32 := 1#32
  let arg13 : BitVec 32 := Scf.iv v24 c1_i32_12 k0_t5
  let v28 : BitVec 32 := Scalar.subi v27 arg13
  let v29 : Index := Scalar.indexCast v28
  ![v29.toNat]

def k0_chk3 (v19 : BitVec 32) : Prop :=
  ((k0_t4_loop v19).OK) ∧
  (∀ k0_t4 : Fin (k0_t4_loop v19).trips, ∀ a, (k0_off6 v19 k0_t4) a + S1.size a ≤ S2048.size a) ∧
  ((k0_t5_loop v19).OK) ∧
  (∀ k0_t5 : Fin (k0_t5_loop v19).trips, ∀ a, (k0_off9 v19 k0_t5) a + S1.size a ≤ S2048.size a)
theorem k0_t4_ok : ∀ (v19 : BitVec 32) (k0_hw3 : k0_chk3 v19), (k0_t4_loop v19).OK := fun v19 k0_hw3 => k0_hw3.1
theorem k0_off6_inb : ∀ (v19 : BitVec 32) (k0_hw3 : k0_chk3 v19) (k0_t4 : Fin (k0_t4_loop v19).trips), ∀ a, (k0_off6 v19 k0_t4) a + S1.size a ≤ S2048.size a := fun v19 k0_hw3 k0_t4 => k0_hw3.2.1 k0_t4
theorem k0_t5_ok : ∀ (v19 : BitVec 32) (k0_hw3 : k0_chk3 v19), (k0_t5_loop v19).OK := fun v19 k0_hw3 => k0_hw3.2.2.1
theorem k0_off9_inb : ∀ (v19 : BitVec 32) (k0_hw3 : k0_chk3 v19) (k0_t5 : Fin (k0_t5_loop v19).trips), ∀ a, (k0_off9 v19 k0_t5) a + S1.size a ≤ S2048.size a := fun v19 k0_hw3 k0_t5 => k0_hw3.2.2.2 k0_t5

def k0_off10 (v30 : BitVec 32) : Fin 2 → Nat :=
  let c0_14 : Index := 0#32
  let v31 : Index := Scalar.indexCast v30
  ![0, v31.toNat]

def k0_chk6 (v30 : BitVec 32) : Prop :=
  (∀ a, (k0_off10 v30) a + S1x1.size a ≤ S1x2048.size a)
theorem k0_off10_inb : ∀ (v30 : BitVec 32) (k0_hw6 : k0_chk6 v30), ∀ a, (k0_off10 v30) a + S1x1.size a ≤ S1x2048.size a := fun v30 k0_hw6 => k0_hw6

def k0_off11 (v30 : BitVec 32) : Fin 2 → Nat :=
  let v44 : Index := Scalar.indexCast v30
  let c0_21 : Index := 0#32
  ![v44.toNat, 0]
def k0_cond6 (v38 : BitVec 1) (v40 : BitVec 1) : BitVec 1 :=
  let v41 : BitVec 1 := Scalar.andi v38 v40
  let v42 : BitVec 32 := Scalar.extui v41
  let c0_i32_19 : BitVec 32 := 0#32
  let v43 : BitVec 1 := Scalar.cmpi .ne v42 c0_i32_19
  v43

def k0_chk7 (v30 : BitVec 32) (v38 : BitVec 1) (v40 : BitVec 1) : Prop :=
  (∀ (k0_h6 : k0_cond6 v38 v40 = 1#1), ∀ a, (k0_off11 v30) a + S1x11.size a ≤ S2048x11.size a)
theorem k0_off11_inb : ∀ (v30 : BitVec 32) (v38 : BitVec 1) (v40 : BitVec 1) (k0_hw7 : k0_chk7 v30 v38 v40), ∀ (k0_h6 : k0_cond6 v38 v40 = 1#1), ∀ a, (k0_off11 v30) a + S1x11.size a ≤ S2048x11.size a := fun v30 v38 v40 k0_hw7 k0_h6 => k0_hw7 k0_h6

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S10x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x96x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2048x3 : Shape := ⟨2, ![2048, 3]⟩
abbrev S2048x4 : Shape := ⟨2, ![2048, 4]⟩
abbrev S2048 : Shape := ⟨1, ![2048]⟩
abbrev S4x4 : Shape := ⟨2, ![4, 4]⟩
abbrev S121 : Shape := ⟨1, ![121]⟩
abbrev S_ : Shape := ⟨0, ![]⟩
abbrev S121x121 : Shape := ⟨2, ![121, 121]⟩
abbrev S3x3 : Shape := ⟨2, ![3, 3]⟩
abbrev S3x1 : Shape := ⟨2, ![3, 1]⟩
abbrev S3 : Shape := ⟨1, ![3]⟩
abbrev S1x3 : Shape := ⟨2, ![1, 3]⟩
abbrev S2048x1 : Shape := ⟨2, ![2048, 1]⟩
abbrev S3x600x760 : Shape := ⟨3, ![3, 600, 760]⟩
abbrev S1 : Shape := ⟨1, ![1]⟩
abbrev S3x121x121 : Shape := ⟨3, ![3, 121, 121]⟩
abbrev S1x121x121 : Shape := ⟨3, ![1, 121, 121]⟩
abbrev S3x1x1 : Shape := ⟨3, ![3, 1, 1]⟩
abbrev S3x480x640 : Shape := ⟨3, ![3, 480, 640]⟩

abbrev nBuf : Space → Nat
  | .hbm => 244
  | .vmem => 0
  | .smem => 0
  | _ => 0

abbrev hbmTy0_0 (i : Nat) : BufTy := match i % 128 with
  | 0 => ⟨S2048x3, .f32⟩
  | 1 => ⟨S2048x3, .f32⟩
  | 2 => ⟨S2048x4, .f32⟩
  | 3 => ⟨S2048x3, .f32⟩
  | 4 => ⟨S2048, .f32⟩
  | 5 => ⟨S4x4, .f32⟩
  | 6 => ⟨S121, .i32⟩
  | 7 => ⟨S_, .i32⟩
  | 8 => ⟨S121, .i32⟩
  | 9 => ⟨S121, .i32⟩
  | 10 => ⟨S121, .i32⟩
  | 11 => ⟨S_, .i32⟩
  | 12 => ⟨S121, .i32⟩
  | 13 => ⟨S121, .i32⟩
  | 14 => ⟨S121x121, .i32⟩
  | 15 => ⟨S121x121, .i32⟩
  | 16 => ⟨S3x3, .f32⟩
  | 17 => ⟨S3x1, .f32⟩
  | 18 => ⟨S3, .f32⟩
  | 19 => ⟨S1x3, .f32⟩
  | 20 => ⟨S2048x3, .f32⟩
  | 21 => ⟨S2048x3, .f32⟩
  | 22 => ⟨S3x3, .f32⟩
  | 23 => ⟨S2048x3, .f32⟩
  | 24 => ⟨S2048x1, .f32⟩
  | 25 => ⟨S2048, .f32⟩
  | 26 => ⟨S2048, .f32⟩
  | 27 => ⟨S_, .f32⟩
  | 28 => ⟨S2048, .f32⟩
  | 29 => ⟨S2048, .f32⟩
  | 30 => ⟨S2048x1, .f32⟩
  | 31 => ⟨S2048, .f32⟩
  | 32 => ⟨S_, .f32⟩
  | 33 => ⟨S2048, .f32⟩
  | 34 => ⟨S2048, .f32⟩
  | 35 => ⟨S2048, .f32⟩
  | 36 => ⟨S_, .f32⟩
  | 37 => ⟨S2048, .f32⟩
  | 38 => ⟨S2048, .f32⟩
  | 39 => ⟨S2048x1, .f32⟩
  | 40 => ⟨S2048, .f32⟩
  | 41 => ⟨S_, .f32⟩
  | 42 => ⟨S2048, .f32⟩
  | 43 => ⟨S2048, .f32⟩
  | 44 => ⟨S2048, .f32⟩
  | 45 => ⟨S_, .f32⟩
  | 46 => ⟨S2048, .f32⟩
  | 47 => ⟨S2048, .f32⟩
  | 48 => ⟨S_, .f32⟩
  | 49 => ⟨S2048, .f32⟩
  | 50 => ⟨S2048, .i1⟩
  | 51 => ⟨S_, .f32⟩
  | 52 => ⟨S2048, .f32⟩
  | 53 => ⟨S2048, .i1⟩
  | 54 => ⟨S2048, .i1⟩
  | 55 => ⟨S_, .f32⟩
  | 56 => ⟨S2048, .f32⟩
  | 57 => ⟨S2048, .i1⟩
  | 58 => ⟨S2048, .i1⟩
  | 59 => ⟨S_, .f32⟩
  | 60 => ⟨S2048, .f32⟩
  | 61 => ⟨S2048, .i1⟩
  | 62 => ⟨S2048, .i1⟩
  | 63 => ⟨S_, .f32⟩
  | 64 => ⟨S2048, .f32⟩
  | 65 => ⟨S_, .f32⟩
  | 66 => ⟨S2048, .f32⟩
  | 67 => ⟨S2048, .f32⟩
  | 68 => ⟨S_, .f32⟩
  | 69 => ⟨S2048, .f32⟩
  | 70 => ⟨S2048, .f32⟩
  | 71 => ⟨S2048, .f32⟩
  | 72 => ⟨S_, .f32⟩
  | 73 => ⟨S_, .f32⟩
  | 74 => ⟨S_, .f32⟩
  | 75 => ⟨S2048, .f32⟩
  | 76 => ⟨S2048, .f32⟩
  | 77 => ⟨S_, .f32⟩
  | 78 => ⟨S2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S2048, .i32⟩
  | 85 => ⟨S2048, .f32⟩
  | 86 => ⟨S2048, .i32⟩
  | 87 => ⟨S_, .i32⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S2048, .f32⟩
  | 96 => ⟨S2048, .i32⟩
  | 97 => ⟨S_, .i32⟩
  | 98 => ⟨S_, .i32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S_, .f32⟩
  | 106 => ⟨S3x600x760, .f32⟩
  | 107 => ⟨S_, .i32⟩
  | 108 => ⟨S2048, .f32⟩
  | 109 => ⟨S2048, .f32⟩
  | 110 => ⟨S2048, .i32⟩
  | 111 => ⟨S2048, .i32⟩
  | 112 => ⟨S2048, .i32⟩
  | 113 => ⟨S2048, .f32⟩
  | 114 => ⟨S2048, .f32⟩
  | 115 => ⟨S2048x3, .f32⟩
  | 116 => ⟨S2048, .i1⟩
  | 117 => ⟨S121x121, .i32⟩
  | 118 => ⟨S121x121, .i32⟩
  | 119 => ⟨S_, .i32⟩
  | 120 => ⟨S3x600x760, .f32⟩
  | 121 => ⟨S_, .i32⟩
  | 122 => ⟨S_, .i1⟩
  | 123 => ⟨S1, .f32⟩
  | 124 => ⟨S_, .f32⟩
  | 125 => ⟨S1, .f32⟩
  | 126 => ⟨S_, .f32⟩
  | 127 => ⟨S1, .i32⟩
  | _ => ⟨S2048x3, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S_, .i32⟩
  | 5 => ⟨S1, .f32⟩
  | 6 => ⟨S_, .f32⟩
  | 7 => ⟨S1, .f32⟩
  | 8 => ⟨S_, .f32⟩
  | 9 => ⟨S_, .i32⟩
  | 10 => ⟨S1x3, .f32⟩
  | 11 => ⟨S3, .f32⟩
  | 12 => ⟨S1, .i1⟩
  | 13 => ⟨S_, .i1⟩
  | 14 => ⟨S121x121, .i32⟩
  | 15 => ⟨S121x121, .i32⟩
  | 16 => ⟨S121x121, .i32⟩
  | 17 => ⟨S121x121, .i32⟩
  | 18 => ⟨S_, .i32⟩
  | 19 => ⟨S121x121, .i32⟩
  | 20 => ⟨S121x121, .i1⟩
  | 21 => ⟨S_, .i32⟩
  | 22 => ⟨S121x121, .i32⟩
  | 23 => ⟨S121x121, .i1⟩
  | 24 => ⟨S121x121, .i1⟩
  | 25 => ⟨S_, .i32⟩
  | 26 => ⟨S121x121, .i32⟩
  | 27 => ⟨S121x121, .i1⟩
  | 28 => ⟨S121x121, .i1⟩
  | 29 => ⟨S_, .i32⟩
  | 30 => ⟨S121x121, .i32⟩
  | 31 => ⟨S121x121, .i1⟩
  | 32 => ⟨S121x121, .i1⟩
  | 33 => ⟨S121x121, .i32⟩
  | 34 => ⟨S121x121, .i32⟩
  | 35 => ⟨S121x121, .i1⟩
  | 36 => ⟨S121x121, .i32⟩
  | 37 => ⟨S121x121, .i32⟩
  | 38 => ⟨S121x121, .i1⟩
  | 39 => ⟨S121x121, .i1⟩
  | 40 => ⟨S121x121, .i1⟩
  | 41 => ⟨S121x121, .i1⟩
  | 42 => ⟨S121x121, .i1⟩
  | 43 => ⟨S121x121, .f32⟩
  | 44 => ⟨S121x121, .f32⟩
  | 45 => ⟨S121x121, .f32⟩
  | 46 => ⟨S121x121, .f32⟩
  | 47 => ⟨S121x121, .f32⟩
  | 48 => ⟨S121x121, .f32⟩
  | 49 => ⟨S121x121, .f32⟩
  | 50 => ⟨S121x121, .f32⟩
  | 51 => ⟨S121x121, .f32⟩
  | 52 => ⟨S121x121, .f32⟩
  | 53 => ⟨S_, .f32⟩
  | 54 => ⟨S121x121, .f32⟩
  | 55 => ⟨S121x121, .f32⟩
  | 56 => ⟨S_, .f32⟩
  | 57 => ⟨S121x121, .f32⟩
  | 58 => ⟨S121x121, .f32⟩
  | 59 => ⟨S121x121, .f32⟩
  | 60 => ⟨S121x121, .f32⟩
  | 61 => ⟨S121x121, .f32⟩
  | 62 => ⟨S121x121, .f32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S3x121x121, .f32⟩
  | 82 => ⟨S_, .f32⟩
  | 83 => ⟨S121x121, .f32⟩
  | 84 => ⟨S121x121, .f32⟩
  | 85 => ⟨S1x121x121, .f32⟩
  | 86 => ⟨S3x121x121, .f32⟩
  | 87 => ⟨S3x121x121, .f32⟩
  | 88 => ⟨S3x1x1, .f32⟩
  | 89 => ⟨S1x121x121, .f32⟩
  | 90 => ⟨S3x121x121, .f32⟩
  | 91 => ⟨S3x121x121, .f32⟩
  | 92 => ⟨S3x121x121, .f32⟩
  | 93 => ⟨S3x121x121, .f32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S3x600x760, .f32⟩
  | 113 => ⟨S_, .i32⟩
  | 114 => ⟨S_, .i32⟩
  | 115 => ⟨S3x480x640, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_cst_13 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_15 : Ref sig .tc := ⟨.hbm, 87, rfl⟩
abbrev main_c_16 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_17 : Ref sig .tc := ⟨.hbm, 97, rfl⟩
abbrev main_c_18 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v62 : Ref sig .tc := ⟨.hbm, 104, rfl⟩
abbrev main_cst_19 : Ref sig .tc := ⟨.hbm, 105, rfl⟩
abbrev main_v63 : Ref sig .tc := ⟨.hbm, 106, rfl⟩
abbrev main_c_20 : Ref sig .tc := ⟨.hbm, 107, rfl⟩
abbrev main_v64_0 : Ref sig .tc := ⟨.hbm, 108, rfl⟩
abbrev main_v64_1 : Ref sig .tc := ⟨.hbm, 109, rfl⟩
abbrev main_v64_2 : Ref sig .tc := ⟨.hbm, 110, rfl⟩
abbrev main_v64_3 : Ref sig .tc := ⟨.hbm, 111, rfl⟩
abbrev main_v64_4 : Ref sig .tc := ⟨.hbm, 112, rfl⟩
abbrev main_v64_5 : Ref sig .tc := ⟨.hbm, 113, rfl⟩
abbrev main_v64_6 : Ref sig .tc := ⟨.hbm, 114, rfl⟩
abbrev main_v64_7 : Ref sig .tc := ⟨.hbm, 115, rfl⟩
abbrev main_v64_8 : Ref sig .tc := ⟨.hbm, 116, rfl⟩
abbrev main_v64_9 : Ref sig .tc := ⟨.hbm, 117, rfl⟩
abbrev main_v64_10 : Ref sig .tc := ⟨.hbm, 118, rfl⟩
abbrev main_v64_11 : Ref sig .tc := ⟨.hbm, 119, rfl⟩
abbrev main_v64_12 : Ref sig .tc := ⟨.hbm, 120, rfl⟩
abbrev main_while0c_c_33 : Ref sig .tc := ⟨.hbm, 121, rfl⟩
abbrev main_while0c_v66 : Ref sig .tc := ⟨.hbm, 122, rfl⟩
abbrev main_while0b_call3_v0 : Ref sig .tc := ⟨.hbm, 123, rfl⟩
abbrev main_while0b_v66 : Ref sig .tc := ⟨.hbm, 124, rfl⟩
abbrev main_while0b_call4_v0 : Ref sig .tc := ⟨.hbm, 125, rfl⟩
abbrev main_while0b_v67 : Ref sig .tc := ⟨.hbm, 126, rfl⟩
abbrev main_while0b_call5_v0 : Ref sig .tc := ⟨.hbm, 127, rfl⟩
abbrev main_while0b_v68 : Ref sig .tc := ⟨.hbm, 128, rfl⟩
abbrev main_while0b_call6_v0 : Ref sig .tc := ⟨.hbm, 129, rfl⟩
abbrev main_while0b_v69 : Ref sig .tc := ⟨.hbm, 130, rfl⟩
abbrev main_while0b_call7_v0 : Ref sig .tc := ⟨.hbm, 131, rfl⟩
abbrev main_while0b_v70 : Ref sig .tc := ⟨.hbm, 132, rfl⟩
abbrev main_while0b_call8_v0 : Ref sig .tc := ⟨.hbm, 133, rfl⟩
abbrev main_while0b_v71 : Ref sig .tc := ⟨.hbm, 134, rfl⟩
abbrev main_while0b_call9_v0 : Ref sig .tc := ⟨.hbm, 135, rfl⟩
abbrev main_while0b_v72 : Ref sig .tc := ⟨.hbm, 136, rfl⟩
abbrev main_while0b_call10_c : Ref sig .tc := ⟨.hbm, 137, rfl⟩
abbrev main_while0b_call10_v0 : Ref sig .tc := ⟨.hbm, 138, rfl⟩
abbrev main_while0b_v73 : Ref sig .tc := ⟨.hbm, 139, rfl⟩
abbrev main_while0b_call11_v0 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_v77 : Ref sig .tc := ⟨.hbm, 144, rfl⟩
abbrev main_while0b_v78 : Ref sig .tc := ⟨.hbm, 145, rfl⟩
abbrev main_while0b_c_33 : Ref sig .tc := ⟨.hbm, 146, rfl⟩
abbrev main_while0b_v79 : Ref sig .tc := ⟨.hbm, 147, rfl⟩
abbrev main_while0b_v80 : Ref sig .tc := ⟨.hbm, 148, rfl⟩
abbrev main_while0b_c_34 : Ref sig .tc := ⟨.hbm, 149, rfl⟩
abbrev main_while0b_v81 : Ref sig .tc := ⟨.hbm, 150, rfl⟩
abbrev main_while0b_v82 : Ref sig .tc := ⟨.hbm, 151, rfl⟩
abbrev main_while0b_v83 : Ref sig .tc := ⟨.hbm, 152, rfl⟩
abbrev main_while0b_c_35 : Ref sig .tc := ⟨.hbm, 153, rfl⟩
abbrev main_while0b_v84 : Ref sig .tc := ⟨.hbm, 154, rfl⟩
abbrev main_while0b_v85 : Ref sig .tc := ⟨.hbm, 155, rfl⟩
abbrev main_while0b_v86 : Ref sig .tc := ⟨.hbm, 156, rfl⟩
abbrev main_while0b_c_36 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_v95 : Ref sig .tc := ⟨.hbm, 166, rfl⟩
abbrev main_while0b_v96 : Ref sig .tc := ⟨.hbm, 167, rfl⟩
abbrev main_while0b_v97 : Ref sig .tc := ⟨.hbm, 168, rfl⟩
abbrev main_while0b_v98 : Ref sig .tc := ⟨.hbm, 169, rfl⟩
abbrev main_while0b_v99 : Ref sig .tc := ⟨.hbm, 170, rfl⟩
abbrev main_while0b_v100 : Ref sig .tc := ⟨.hbm, 171, rfl⟩
abbrev main_while0b_v101 : Ref sig .tc := ⟨.hbm, 172, rfl⟩
abbrev main_while0b_v102 : Ref sig .tc := ⟨.hbm, 173, rfl⟩
abbrev main_while0b_v103 : Ref sig .tc := ⟨.hbm, 174, rfl⟩
abbrev main_while0b_v104 : Ref sig .tc := ⟨.hbm, 175, rfl⟩
abbrev main_while0b_v105 : Ref sig .tc := ⟨.hbm, 176, rfl⟩
abbrev main_while0b_v106 : Ref sig .tc := ⟨.hbm, 177, rfl⟩
abbrev main_while0b_v107 : Ref sig .tc := ⟨.hbm, 178, rfl⟩
abbrev main_while0b_v108 : Ref sig .tc := ⟨.hbm, 179, rfl⟩
abbrev main_while0b_v109 : Ref sig .tc := ⟨.hbm, 180, rfl⟩
abbrev main_while0b_cst_37 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_c_38 : Ref sig .tc := ⟨.hbm, 191, rfl⟩
abbrev main_while0b_c_39 : Ref sig .tc := ⟨.hbm, 192, rfl⟩
abbrev main_while0b_v119 : Ref sig .tc := ⟨.hbm, 193, rfl⟩
abbrev main_while0b_c_40 : Ref sig .tc := ⟨.hbm, 194, rfl⟩
abbrev main_while0b_c_41 : Ref sig .tc := ⟨.hbm, 195, rfl⟩
abbrev main_while0b_v120 : Ref sig .tc := ⟨.hbm, 196, rfl⟩
abbrev main_while0b_c_42 : Ref sig .tc := ⟨.hbm, 197, rfl⟩
abbrev main_while0b_v121 : Ref sig .tc := ⟨.hbm, 198, rfl⟩
abbrev main_while0b_c_43 : Ref sig .tc := ⟨.hbm, 199, rfl⟩
abbrev main_while0b_v122 : Ref sig .tc := ⟨.hbm, 200, rfl⟩
abbrev main_while0b_c_44 : Ref sig .tc := ⟨.hbm, 201, rfl⟩
abbrev main_while0b_v123 : Ref sig .tc := ⟨.hbm, 202, rfl⟩
abbrev main_while0b_v124 : Ref sig .tc := ⟨.hbm, 203, rfl⟩
abbrev main_while0b_c_45 : Ref sig .tc := ⟨.hbm, 204, rfl⟩
abbrev main_while0b_v125 : Ref sig .tc := ⟨.hbm, 205, rfl⟩
abbrev main_while0b_c_46 : Ref sig .tc := ⟨.hbm, 206, rfl⟩
abbrev main_while0b_v126 : Ref sig .tc := ⟨.hbm, 207, rfl⟩
abbrev main_while0b_v127 : Ref sig .tc := ⟨.hbm, 208, rfl⟩
abbrev main_while0b_v128 : Ref sig .tc := ⟨.hbm, 209, rfl⟩
abbrev main_while0b_cst_47 : Ref sig .tc := ⟨.hbm, 210, rfl⟩
abbrev main_while0b_v129 : Ref sig .tc := ⟨.hbm, 211, rfl⟩
abbrev main_while0b_v130 : Ref sig .tc := ⟨.hbm, 212, rfl⟩
abbrev main_while0b_v131 : Ref sig .tc := ⟨.hbm, 213, rfl⟩
abbrev main_while0b_v132 : Ref sig .tc := ⟨.hbm, 214, rfl⟩
abbrev main_while0b_v133 : Ref sig .tc := ⟨.hbm, 215, rfl⟩
abbrev main_while0b_v134 : Ref sig .tc := ⟨.hbm, 216, rfl⟩
abbrev main_while0b_v135 : Ref sig .tc := ⟨.hbm, 217, rfl⟩
abbrev main_while0b_v136 : Ref sig .tc := ⟨.hbm, 218, rfl⟩
abbrev main_while0b_v137 : Ref sig .tc := ⟨.hbm, 219, rfl⟩
abbrev main_while0b_v138 : Ref sig .tc := ⟨.hbm, 220, rfl⟩
abbrev main_while0b_v139 : Ref sig .tc := ⟨.hbm, 221, rfl⟩
abbrev main_while0b_c_48 : Ref sig .tc := ⟨.hbm, 222, rfl⟩
abbrev main_while0b_c_49 : Ref sig .tc := ⟨.hbm, 223, rfl⟩
abbrev main_while0b_v140 : Ref sig .tc := ⟨.hbm, 224, rfl⟩
abbrev main_while0b_c_50 : Ref sig .tc := ⟨.hbm, 225, rfl⟩
abbrev main_while0b_c_51 : Ref sig .tc := ⟨.hbm, 226, rfl⟩
abbrev main_while0b_v141 : Ref sig .tc := ⟨.hbm, 227, rfl⟩
abbrev main_while0b_c_52 : Ref sig .tc := ⟨.hbm, 228, rfl⟩
abbrev main_while0b_v142 : Ref sig .tc := ⟨.hbm, 229, rfl⟩
abbrev main_while0b_c_53 : Ref sig .tc := ⟨.hbm, 230, rfl⟩
abbrev main_while0b_v143 : Ref sig .tc := ⟨.hbm, 231, rfl⟩
abbrev main_while0b_c_54 : Ref sig .tc := ⟨.hbm, 232, rfl⟩
abbrev main_while0b_v144 : Ref sig .tc := ⟨.hbm, 233, rfl⟩
abbrev main_while0b_v145 : Ref sig .tc := ⟨.hbm, 234, rfl⟩
abbrev main_while0b_c_55 : Ref sig .tc := ⟨.hbm, 235, rfl⟩
abbrev main_while0b_v146 : Ref sig .tc := ⟨.hbm, 236, rfl⟩
abbrev main_while0b_c_56 : Ref sig .tc := ⟨.hbm, 237, rfl⟩
abbrev main_while0b_v147 : Ref sig .tc := ⟨.hbm, 238, rfl⟩
abbrev main_while0b_v148 : Ref sig .tc := ⟨.hbm, 239, rfl⟩
abbrev main_while0b_v149 : Ref sig .tc := ⟨.hbm, 240, rfl⟩
abbrev main_while0b_c_57 : Ref sig .tc := ⟨.hbm, 241, rfl⟩
abbrev main_while0b_v150 : Ref sig .tc := ⟨.hbm, 242, rfl⟩
abbrev main_v65 : Ref sig .tc := ⟨.hbm, 243, rfl⟩

abbrev nD : Nat := 1
abbrev τ : Topo := Topo.v7x

variable {F : FTy → Type} [FloatOps F]

abbrev main_while0_count : Scf.Loop 32 := ⟨0#32, 2048#32, 1#32⟩
-- ==== Proof.KISpec.lean ====
/- What the kernel's list of kept Gaussians is, as a function of the encoded bounds and of the row flags: the
   indices in increasing order whose bound is not negative, taken from the rows of 256 whose flag is positive. -/
module

public import proofs.«01_k».proof.Proof.Gen.KernelIdeal
public import Idealize.ShloMosaic.Lib.ValueIdx

@[expose] public section

noncomputable section

namespace Cert.SplatIdeal

open Idealize.ShloMosaic Idealize.ShloMosaic.ValueIdx

variable {F : FTy → Type} [FloatOps F]

abbrev BoundsTy (F : FTy → Type) : Type := (⟨2, ![1, 2048]⟩ : Shape).Idx → Elt F .f32
abbrev FlagsTy (F : FTy → Type) : Type := (⟨2, ![8, 1]⟩ : Shape).Idx → Elt F .f32
abbrev IdsTy (F : FTy → Type) : Type := (⟨1, ![2048]⟩ : Shape).Idx → Elt F .i32

/-- Gaussian `j`'s encoded bound is at least zero. -/
def pass (B : BoundsTy F) (j : ℕ) : Bool :=
  if h : j < 2048 then Scalar.cmpf .oge (B (ix2 (0 : Fin 1) (⟨j, h⟩ : Fin 2048))) (Scalar.ofBits .f32 0x00000000#32) == 1#1 else false

/-- Row `r`'s flag is positive. -/
def rowOn (FL : FlagsTy F) (r : ℕ) : Bool :=
  if h : r < 8 then Scalar.cmpf .ogt (FL (ix2 (⟨r, h⟩ : Fin 8) (0 : Fin 1))) (Scalar.ofBits .f32 0x00000000#32) == 1#1 else false

/-- The kept indices among the first `n` of row `r`. -/
def rowSel (B : BoundsTy F) (r n : ℕ) : List ℕ := ((List.range n).map (r * 256 + ·)).filter (pass B)

/-- The kept indices of the first `n` rows. -/
def sel (B : BoundsTy F) (FL : FlagsTy F) (n : ℕ) : List ℕ :=
  (List.range n).flatMap fun r => if rowOn FL r then rowSel B r 256 else []

theorem rowSel_zero (B : BoundsTy F) (r : ℕ) : rowSel B r 0 = [] := rfl

theorem rowSel_succ (B : BoundsTy F) (r n : ℕ) :
    rowSel B r (n + 1) = rowSel B r n ++ if pass B (r * 256 + n) then [r * 256 + n] else [] := by
  unfold rowSel
  rw [List.range_succ, List.map_append, List.filter_append]
  simp only [List.map_cons, List.map_nil, List.filter_cons, List.filter_nil]

theorem sel_zero (B : BoundsTy F) (FL : FlagsTy F) : sel B FL 0 = [] := rfl

theorem sel_succ (B : BoundsTy F) (FL : FlagsTy F) (n : ℕ) :
    sel B FL (n + 1) = sel B FL n ++ if rowOn FL n then rowSel B n 256 else [] := by
  unfold sel
  rw [List.range_succ, List.flatMap_append]
  simp

theorem rowSel_length (B : BoundsTy F) (r n : ℕ) : (rowSel B r n).length ≤ n := by
  unfold rowSel
  exact (List.length_filter_le _ _).trans (by simp)

theorem sel_length (B : BoundsTy F) (FL : FlagsTy F) (n : ℕ) : (sel B FL n).length ≤ n * 256 := by
  induction n with
  | zero => simp [sel_zero]
  | succ n ih =>
    rw [sel_succ, List.length_append]
    have := rowSel_length B n 256
    split <;> simp <;> omega

theorem lt_of_pass {B : BoundsTy F} {j : ℕ} (h : pass B j = true) : j < 2048 := by
  unfold pass at h
  by_contra hj
  rw [dif_neg hj] at h
  exact Bool.false_ne_true h

theorem lt_of_mem_rowSel {B : BoundsTy F} {r n j : ℕ} (h : j ∈ rowSel B r n) : j < 2048 :=
  lt_of_pass (List.mem_filter.mp h).2

/-- Every kept index is below 2048. -/
theorem lt_of_mem_sel {B : BoundsTy F} {FL : FlagsTy F} {n j : ℕ} (h : j ∈ sel B FL n) : j < 2048 := by
  unfold sel at h
  obtain ⟨r, -, h⟩ := List.mem_flatMap.mp h
  split at h
  · exact lt_of_mem_rowSel h
  · simp at h

/-- The table of kept indices over earlier contents `X`. -/
def put (X : IdsTy F) (L : List ℕ) : IdsTy F := fun x => if h : (x 0).val < L.length then BitVec.ofNat 32 (L[(x 0).val]) else X x

theorem put_nil (X : IdsTy F) : put X [] = X := rfl

theorem put_snoc (X : IdsTy F) (L : List ℕ) (j : ℕ) :
    put X (L ++ [j]) = fun x => if (x 0).val = L.length then BitVec.ofNat 32 j else put X L x := by
  funext x
  unfold put
  by_cases h1 : (x 0).val < L.length
  · rw [dif_pos (by simp; omega), if_neg (by omega), dif_pos h1, List.getElem_append_left h1]
  · by_cases h2 : (x 0).val = L.length
    · rw [dif_pos (by simp; omega), if_pos h2]
      simp [h2]
    · rw [dif_neg (by simp; omega), if_neg h2, dif_neg h1]

theorem put_apply (X : IdsTy F) (L : List ℕ) (k : ℕ) (hk : k < L.length) (x : (⟨1, ![2048]⟩ : Shape).Idx) (hx : (x 0).val = k) :
    put X L x = BitVec.ofNat 32 (L[k]) := by
  subst hx
  exact dif_pos hk

/-- A one-element load of a two-axis view reads the element at the offsets. -/
theorem readAt_one2 {sig : RefSig} {κ : Kind} {sp : Space} {e : EltTy} {Val : EltTy → Type} {m n : ℕ}
    (v : View sig κ sp (⟨2, ![m, n]⟩ : Shape) e) (f : v.ty.Contents Val) {off size : Fin 2 → ℕ} (hs : size = ![1, 1])
    (inb : ∀ a, off a + size a ≤ (⟨2, ![m, n]⟩ : Shape).size a) (x : (Rect.unit (s := (⟨2, ![m, n]⟩ : Shape)) off size inb).toLoadRect.shape.Idx)
    (p : Fin m) (q : Fin n) (hp : off 0 = p.val) (hq : off 1 = q.val) :
    v.readAt Val (Rect.unit (s := (⟨2, ![m, n]⟩ : Shape)) off size inb).toLoadRect f x = v.read Val f (ix2 p q) := by
  subst hs
  refine congrArg (v.read Val f) (funext fun a => Fin.ext ?_)
  match a with
  | ⟨0, h0⟩ =>
    show off 0 + 1 * (x 0).val = p.val
    have : (x 0).val < 1 := (x 0).isLt
    omega
  | ⟨1, h1⟩ =>
    show off 1 + 1 * (x 1).val = q.val
    have : (x 1).val < 1 := (x 1).isLt
    omega

/-- A one-element load of a one-axis view reads the element at the offset. -/
theorem readAt_one1 {sig : RefSig} {κ : Kind} {sp : Space} {e : EltTy} {Val : EltTy → Type} {m : ℕ}
    (v : View sig κ sp (⟨1, ![m]⟩ : Shape) e) (f : v.ty.Contents Val) {off size : Fin 1 → ℕ} (hs : size = ![1])
    (inb : ∀ a, off a + size a ≤ (⟨1, ![m]⟩ : Shape).size a) (x : (Rect.unit (s := (⟨1, ![m]⟩ : Shape)) off size inb).toLoadRect.shape.Idx)
    (p : Fin m) (hp : off 0 = p.val) :
    v.readAt Val (Rect.unit (s := (⟨1, ![m]⟩ : Shape)) off size inb).toLoadRect f x = v.read Val f (ix1 p) := by
  subst hs
  refine congrArg (v.read Val f) (funext fun a => Fin.ext ?_)
  match a with
  | ⟨0, h0⟩ =>
    show off 0 + 1 * (x 0).val = p.val
    have : (x 0).val < 1 := (x 0).isLt
    omega

end Cert.SplatIdeal
end
-- ==== Proof.KILoopA.lean ====
/- The kernel's selection loops: one trip of each, by what the index table and the counter hold. -/
module

public import proofs.«01_k».proof.Proof.KISpec
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.CellWrites
public import Idealize.ShloMosaic.Lib.VecWindow

@[expose] public section

set_option maxRecDepth 16384

noncomputable section

namespace Cert.KernelIdeal.Hand

open Cert.KernelIdeal Cert.KernelIdeal.Gen Cert.SplatIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev 𝒱₀ : Variants := Variants.none

section Loops

variable (c : Dev nD) (i : grid0.Coords) (arg1 : Memref sig .tc .vmem S10x8x256 .f32) (harg1 : arg1.IsWhole) (arg2 : Memref sig .tc .vmem S3x96x640 .f32) (harg2 : arg2.IsWhole) (arg3 : Memref sig .tc .vmem S2048x11 .f32) (harg3 : arg3.IsWhole) (arg4 : Memref sig .tc .smem S2048 .i32) (harg4 : arg4.IsWhole) (arg5 : Memref sig .tc .smem S1 .i32) (harg5 : arg5.IsWhole) (arg6 : Memref sig .tc .smem S1x2048 .f32) (harg6 : arg6.IsWhole) (arg7 : Memref sig .tc .smem S8x1 .f32) (harg7 : arg7.IsWhole) (arg8 : Memref sig .tc .vmem S96x640 .f32) (harg8 : arg8.IsWhole) (arg9 : Memref sig .tc .vmem S1x2048 .f32) (harg9 : arg9.IsWhole) (arg10 : Memref sig .tc .vmem S8x1 .f32) (harg10 : arg10.IsWhole) (arg11 : DmaSems sig S_) (arg12 : DmaSems sig S_) (k0_h1 : k0_cond1 i = 1#1)

theorem t1_lt (k0_t1 : Fin k0_t1_loop.trips) : k0_t1.val < 8 := k0_t1.isLt.trans_le (by decide +kernel)

theorem t2_lt (k0_t1 : Fin k0_t1_loop.trips) (k : Fin (k0_t2_loop k0_t1).trips) : k.val < 256 :=
  k.isLt.trans_le ((by decide +kernel : ∀ k0_t1 : Fin k0_t1_loop.trips, (k0_t2_loop k0_t1).trips ≤ 256) k0_t1)

theorem t2_trips (k0_t1 : Fin k0_t1_loop.trips) :
    Scf.trips (k0_t2_loop k0_t1).lb (k0_t2_loop k0_t1).ub (k0_t2_loop k0_t1).st = 256 :=
  (by decide +kernel : ∀ k0_t1 : Fin k0_t1_loop.trips, (k0_t2_loop k0_t1).trips = 256) k0_t1

theorem t3_trips (k0_t1 : Fin k0_t1_loop.trips) : (k0_t3_loop k0_t1).trips = 0 :=
  (by decide +kernel : ∀ k0_t1 : Fin k0_t1_loop.trips, (k0_t3_loop k0_t1).trips = 0) k0_t1

theorem off1_0 (k : Fin k0_t1_loop.trips) : k0_off1 k 0 = k.val :=
  (by decide +kernel : ∀ k : Fin k0_t1_loop.trips, k0_off1 k 0 = k.val) k

theorem iv_row (r k : ℕ) : Scf.iv (Scalar.muli (Scf.iv 0#32 1#32 r) 256#32) 1#32 k = BitVec.ofNat 32 (r * 256 + k) := by
  show (0#32 + BitVec.ofNat 32 r * 1#32) * 256#32 + BitVec.ofNat 32 k * 1#32 = _
  simp only [BitVec.ofNat_add, BitVec.ofNat_mul, BitVec.mul_one, BitVec.zero_add]

/-- Before trip `k` of row `r`'s loop: the counter and the table hold the list `L` of the earlier rows followed by the
    kept ones of the row's first `k`. -/
def inv2 (B : BoundsTy F) (X : IdsTy F) (L : List ℕ) (r k : ℕ) (acc : BitVec 32) : sProp 𝕄 :=
  iprop(⌜acc = BitVec.ofNat 32 (L ++ rowSel B r k).length⌝
    ∗ owns (c : Thread nD τ) arg4 fullShare (put X (L ++ rowSel B r k)) ∗ owns (c : Thread nD τ) arg6 fullShare B)

theorem t2_step (B : BoundsTy F) (X : IdsTy F) (L : List ℕ) (k0_t1 : Fin k0_t1_loop.trips) (hL : L.length ≤ k0_t1.val * 256)
    (v157 : BitVec 1) (k0_h2 : k0_cond2 v157 = 1#1) (v161 : BitVec 32) (hv : v161 = Scalar.muli (Scf.iv 0#32 1#32 k0_t1) 256#32) (k : Fin (k0_t2_loop k0_t1).trips) (acc : BitVec 32) :
    inv2 (F := F) c arg4 arg6 B X L k0_t1.val k.val acc
      ⊢ wp frame (wpE (defs₀ (F := F)) 𝒱₀ (c : Thread nD τ) none) Set.univ
        (k0_t2_body (F := F) i arg1 harg1 arg2 harg2 arg3 harg3 arg4 harg4 arg5 harg5 arg6 harg6 arg7 harg7 arg8 harg8 arg9 harg9 arg10 harg10 arg11 arg12 k0_h1 k0_t1 v157 k0_h2 v161 k acc)
        (fun acc' => inv2 (F := F) c arg4 arg6 B X L k0_t1.val (k.val + 1) acc') := by
  unfold inv2 owns
  iintro ⟨%hacc, ⟨%f4, %hf4, H4⟩, ⟨%f6, %hf6, H6⟩⟩
  have hlen : (L ++ rowSel B k0_t1.val k.val).length < 2048 := by
    have := rowSel_length B k0_t1.val k.val
    have := t1_lt k0_t1
    have := t2_lt k0_t1 k
    rw [List.length_append]; omega
  have hoff : k0_off3 acc 0 = (L ++ rowSel B k0_t1.val k.val).length := by
    rw [hacc]
    show (BitVec.ofNat 32 (L ++ rowSel B k0_t1.val k.val).length).toNat = _
    rw [BitVec.toNat_ofNat]; omega
  have hchk : ∀ v, k0_chk1 i v157 acc v := by
    intro v
    unfold k0_chk1
    intro _ _ _ a
    fin_cases a
    show k0_off3 acc 0 + 1 ≤ 2048
    omega
  sl_unfold [k0_t2_body]
  sl_exec (disch := exact hchk _)
  sl_step
  have hk := t2_lt k0_t1 k
  have ht := t1_lt k0_t1
  have hiv : Scf.iv v161 1#32 k = BitVec.ofNat 32 (k0_t1.val * 256 + k.val) := by
    rw [hv]; exact iv_row k0_t1.val k.val
  have hoff2 : k0_off2 k0_t1 k 1 = k0_t1.val * 256 + k.val := by
    show (Scf.iv (Scalar.muli (Scf.iv 0#32 1#32 k0_t1.val) 256#32) 1#32 k.val).toNat = _
    rw [iv_row, BitVec.toNat_ofNat]; omega
  have hp : t2_step.sl.v173 c i arg6 k0_h1 k0_t1 k f6 = Scalar.cmpf .oge (B (ix2 (0 : Fin 1) (⟨k0_t1.val * 256 + k.val, by omega⟩ : Fin 2048))) (Scalar.ofBits .f32 0x00000000#32) := by
    unfold t2_step.sl.v173 t2_step.sl.r
    rw [readAt_one2 _ _ rfl _ _ (0 : Fin 1) (⟨k0_t1.val * 256 + k.val, by omega⟩ : Fin 2048) rfl hoff2, hf6]
    rfl
  rcases (by decide : ∀ v : BitVec 1, v = 1#1 ∨ v = 0#1) (t2_step.sl.v173 c i arg6 k0_h1 k0_t1 k f6) with h1 | h1
  · have hpass : pass B (k0_t1.val * 256 + k.val) = true := by
      unfold pass
      rw [dif_pos (by omega), ← hp, h1]; rfl
    rw [rowSel_succ, if_pos hpass, ← List.append_assoc]
    isplitr
    · ipureintro
      unfold t2_step.sl.v177 t2_step.sl.v176
      rw [h1, hacc, List.length_append (bs := [_])]
      show _ + 1#32 = _
      simp [BitVec.ofNat_add]
    isplitl [H4]
    · iexists _
      isplitr; swap; · iexact H4
      ipureintro
      rw [dif_pos (show k0_cond3 _ = 1#1 from by rw [h1]; decide), put_snoc]
      funext x
      unfold t2_step.sl.arg15
      refine (View.read_writes_cons_cell _ _ _ _ _ _).trans ?_
      rw [View.writes_nil, hf4, hoff, hiv]
    · iexists f6
      isplitr; · ipureintro; exact hf6
      iexact H6
  · have hpass : ¬ pass B (k0_t1.val * 256 + k.val) = true := by
      unfold pass
      rw [dif_pos (by omega), ← hp, h1]; decide
    rw [rowSel_succ, if_neg hpass, List.append_nil]
    isplitr
    · ipureintro
      unfold t2_step.sl.v177 t2_step.sl.v176
      rw [h1, hacc]
      show _ + 0#32 = _
      simp
    isplitl [H4]
    · iexists _
      isplitr; swap; · iexact H4
      ipureintro
      rw [dif_neg (show ¬ k0_cond3 _ = 1#1 from by rw [h1]; decide), hf4]
    · iexists f6
      isplitr; · ipureintro; exact hf6
      iexact H6

/-- Before trip `k` of the loop over rows: the counter and the table hold the kept indices of the first `k` rows. -/
def inv1 (B : BoundsTy F) (FL : FlagsTy F) (X : IdsTy F) (k : ℕ) (acc : BitVec 32) : sProp 𝕄 :=
  iprop(⌜acc = BitVec.ofNat 32 (sel B FL k).length⌝
    ∗ owns (c : Thread nD τ) arg4 fullShare (put X (sel B FL k)) ∗ owns (c : Thread nD τ) arg6 fullShare B ∗ owns (c : Thread nD τ) arg7 fullShare FL)

theorem t1_step (B : BoundsTy F) (FL : FlagsTy F) (X : IdsTy F) (k : Fin k0_t1_loop.trips) (acc : BitVec 32) :
    inv1 (F := F) c arg4 arg6 arg7 B FL X k.val acc
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 arg12 k0_h1 k acc)
        (fun acc' => inv1 (F := F) c arg4 arg6 arg7 B FL X (k.val + 1) acc') := by
  unfold inv1
  iintro ⟨%hacc, H4, H6, H7⟩
  unfold owns
  icases H7 with ⟨%f7, %hf7, H7⟩
  sl_unfold [k0_t1_body]
  sl_exec
  have ht := t1_lt k
  have hp : t1_step.sl.v157 c i arg7 k0_h1 k f7 = Scalar.cmpf .ogt (FL (ix2 (⟨k.val, ht⟩ : Fin 8) (0 : Fin 1))) (Scalar.ofBits .f32 0x00000000#32) := by
    unfold t1_step.sl.v157 t1_step.sl.r
    rw [readAt_one2 _ _ rfl _ _ (⟨k.val, ht⟩ : Fin 8) (0 : Fin 1) (off1_0 k) rfl, hf7]
    rfl
  rcases (by decide : ∀ v : BitVec 1, v = 1#1 ∨ v = 0#1) (t1_step.sl.v157 c i arg7 k0_h1 k f7) with h1 | h1
  · have hon : rowOn FL k.val = true := by
      unfold rowOn
      rw [dif_pos ht, ← hp, h1]; rfl
    have h2 : k0_cond2 (t1_step.sl.v157 c i arg7 k0_h1 k f7) = 1#1 := by rw [h1]; decide
    rw [dif_pos h2]
    iapply (Scf.wp_for_bind frame (wpE (defs₀ (F := F)) 𝒱₀ (c : Thread nD τ) none) Set.univ _ _ _ _ _ _
      (fun n acc' => inv2 (F := F) c arg4 arg6 B X (sel B FL k.val) k.val n acc')
      (fun n acc' => t2_step c i arg1 harg1 arg2 harg2 arg3 harg3 arg4 harg4 arg5 harg5 arg6 harg6 arg7 harg7 arg8 harg8 arg9 harg9 arg10 harg10 arg11 arg12 k0_h1 B X
        (sel B FL k.val) k (sel_length B FL k.val) _ h2 _ rfl n acc')) $$ [H4 H6]
    · unfold inv2 owns
      rw [rowSel_zero, List.append_nil]
      isplitr; · ipureintro; exact hacc
      isplitl [H4]; · iexact H4
      iexact H6
    iintro %acc2 HI
    unfold inv2
    icases HI with ⟨%hacc2, H4, H6⟩
    rw [t2_trips] at hacc2
    rw [t2_trips]
    iapply (Scf.wp_for_bind frame (wpE (defs₀ (F := F)) 𝒱₀ (c : Thread nD τ) none) Set.univ _ _ _ _ _ _
      (fun n acc' => iprop(⌜acc' = acc2⌝))
      (fun n acc' => (Nat.not_lt_zero _ (Nat.lt_of_lt_of_eq n.isLt (t3_trips k))).elim)) $$ []
    · ipureintro; rfl
    iintro %acc3 %hacc3
    simp only [pure_bind]
    sl_exec
    sl_step
    have e : sel B FL (k.val + 1) = sel B FL k.val ++ rowSel B k.val 256 := by rw [sel_succ, if_pos hon]
    rw [e]
    isplitr; · ipureintro; exact hacc3.trans hacc2
    unfold owns
    isplitl [H4]; · iexact H4
    isplitl [H6]; · iexact H6
    iexists f7
    isplitr; · ipureintro; exact hf7
    iexact H7
  · have hon : ¬ rowOn FL k.val = true := by
      unfold rowOn
      rw [dif_pos ht, ← hp, h1]; decide
    have h2 : ¬ k0_cond2 (t1_step.sl.v157 c i arg7 k0_h1 k f7) = 1#1 := by rw [h1]; decide
    rw [dif_neg h2]
    simp only [pure_bind]
    sl_exec
    sl_step
    have e : sel B FL (k.val + 1) = sel B FL k.val := by rw [sel_succ, if_neg hon, List.append_nil]
    rw [e]
    isplitr; · ipureintro; exact hacc
    isplitl [H4]; · iexact H4
    isplitl [H6]; · iexact H6
    iexists f7
    isplitr; · ipureintro; exact hf7
    iexact H7

end Loops
end Cert.KernelIdeal.Hand
end
-- ==== Proof.KILoopB.lean ====
/- The kernel's compositing loop: one trip of it, by what the transmittance and the block of the image hold. -/
module

public import proofs.«01_k».proof.Proof.KISpec
public import proofs.«01_k».proof.Proof.KILoopA
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.CellWrites
public import Idealize.ShloMosaic.Lib.VecWindow
public import Idealize.ShloMosaic.Lib.WritesUnit

@[expose] public section

set_option maxRecDepth 16384

noncomputable section

namespace Cert.KernelIdeal.Hand

open Cert.KernelIdeal Cert.KernelIdeal.Gen Cert.SplatIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `k` of the table of projected Gaussians. -/
def rowT (T : S2048x11.Idx → Elt F .f32) (k : ℕ) : Vec F S1x11 .f32 :=
  fun j => if h : k < 2048 then T (ix2 (⟨k, h⟩ : Fin 2048) (j 1)) else T (ix2 (0 : Fin 2048) (j 1))

/-- Gaussian `k`'s encoded bound. -/
def encAt (B : BoundsTy F) (k : ℕ) : Elt F .f32 :=
  if h : k < 2048 then B (ix2 (0 : Fin 1) (⟨k, h⟩ : Fin 2048)) else B (ix2 (0 : Fin 1) (0 : Fin 2048))

/-- One channel of the block, as a stack of one. -/
def slab (o : S3x96x640.Idx → Elt F .f32) (q : Fin 3) : Vec F S1x96x640 .f32 := fun j => o (ix3 q (j 1) (j 2))

/-- The block with the three given channels. -/
def stack (p0 p1 p2 : S1x96x640.Idx → Elt F .f32) : S3x96x640.Idx → Elt F .f32 := fun x => (![p0, p1, p2] (x 0)) (ix3 (0 : Fin 1) (x 1) (x 2))

/-- The condition under which Gaussian `k` is composited into the block of grid point `i`. -/
def meets (i : grid0.Coords) (B : BoundsTy F) (k : ℕ) : Prop :=
  k0_cond5 (Scalar.cmpf .oge (k0_pay9 (encAt B k)) (k0_pay10 (F := F) i)) (Scalar.cmpf .ole (k0_pay8 (encAt B k)) (k0_pay11 (F := F) i)) = 1#1

instance (i : grid0.Coords) (B : BoundsTy F) (k : ℕ) : Decidable (meets i B k) := by unfold meets; infer_instance

/-- The transmittance and the block after Gaussian `k` is composited. -/
def gstep (i : grid0.Coords) (T : S2048x11.Idx → Elt F .f32) (B : BoundsTy F) (s : (S96x640.Idx → Elt F .f32) × (S3x96x640.Idx → Elt F .f32)) (k : ℕ) :
    (S96x640.Idx → Elt F .f32) × (S3x96x640.Idx → Elt F .f32) :=
  if meets i B k then
    (k0_pay50 (k0_pay4 (F := F)) (k0_pay5 (F := F) i) (rowT T k) s.1 s.1,
     stack (k0_pay12 (rowT T k) (k0_pay49 (k0_pay4 (F := F)) (k0_pay5 (F := F) i) (rowT T k) s.1) (slab s.2 0))
       (k0_pay13 (rowT T k) (k0_pay49 (k0_pay4 (F := F)) (k0_pay5 (F := F) i) (rowT T k) s.1) (slab s.2 1))
       (k0_pay14 (rowT T k) (k0_pay49 (k0_pay4 (F := F)) (k0_pay5 (F := F) i) (rowT T k) s.1) (slab s.2 2)))
  else s

/-- The transmittance and the block after the last `n` of the listed Gaussians, the last one first. -/
def rast (i : grid0.Coords) (T : S2048x11.Idx → Elt F .f32) (B : BoundsTy F) (L : List ℕ) (n : ℕ) : (S96x640.Idx → Elt F .f32) × (S3x96x640.Idx → Elt F .f32) :=
  (L.reverse.take n).foldl (gstep i T B) (k0_pay7 (F := F), k0_pay6 (F := F))

theorem rast_succ (i : grid0.Coords) (T : S2048x11.Idx → Elt F .f32) (B : BoundsTy F) (L : List ℕ) (n : ℕ) (hn : n < L.length) :
    rast i T B L (n + 1) = gstep i T B (rast i T B L n) (L[L.length - 1 - n]'(by omega)) := by
  unfold rast
  have h : n < L.reverse.length := by rw [List.length_reverse]; exact hn
  rw [List.take_succ_eq_append_getElem h, List.foldl_append, List.getElem_reverse]
  rfl

/-- A load of one channel of the block reads the channel. -/
theorem readAt_slab {sp : Space} (v : View sig .tc sp S3x96x640 .f32) (f : v.ty.Contents (Elt F)) (q : Fin 3) {off : Fin 3 → ℕ} (ho : off = ![q.val, 0, 0])
    (inb : ∀ a, off a + S1x96x640.size a ≤ S3x96x640.size a) :
    v.readAt (Elt F) (Rect.unit (s := S3x96x640) off S1x96x640.size inb).toLoadRect f = slab (v.read (Elt F) f) q := by
  subst ho
  funext j
  refine congrArg (v.read (Elt F) f) (funext fun a => Fin.ext ?_)
  match a with
  | ⟨0, h0⟩ =>
    show q.val + 1 * (j 0).val = q.val
    have : (j 0).val < 1 := (j 0).isLt
    omega
  | ⟨1, h1⟩ => show 0 + 1 * (j 1).val = (j 1).val; omega
  | ⟨2, h2⟩ => show 0 + 1 * (j 2).val = (j 2).val; omega

/-- A load of one row of the table reads the row. -/
theorem readAt_row {sp : Space} (v : View sig .tc sp S2048x11 .f32) (f : v.ty.Contents (Elt F)) (k : ℕ) (hk : k < 2048) {off : Fin 2 → ℕ} (h0 : off 0 = k) (h1 : off 1 = 0)
    (inb : ∀ a, off a + S1x11.size a ≤ S2048x11.size a) :
    v.readAt (Elt F) (Rect.unit (s := S2048x11) off S1x11.size inb).toLoadRect f = rowT (v.read (Elt F) f) k := by
  funext j
  unfold rowT
  rw [dif_pos hk]
  refine congrArg (v.read (Elt F) f) (funext fun a => Fin.ext ?_)
  match a with
  | ⟨0, _⟩ =>
    show off 0 + 1 * (j 0).val = k
    have : (j 0).val < 1 := (j 0).isLt
    omega
  | ⟨1, _⟩ => show off 1 + 1 * (j 1).val = (j 1).val; omega

/-- Three stores, one per channel, leave each channel at its own. -/
theorem read_writes_slabs {sp : Space} (v : View sig .tc sp S3x96x640 .f32) (f : v.ty.Contents (Elt F)) (p0 p1 p2 : S1x96x640.Idx → Elt F .f32)
    (i0 : ∀ a, (![0, 0, 0] : Fin 3 → ℕ) a + S1x96x640.size a ≤ S3x96x640.size a) (i1 : ∀ a, (![1, 0, 0] : Fin 3 → ℕ) a + S1x96x640.size a ≤ S3x96x640.size a)
    (i2 : ∀ a, (![2, 0, 0] : Fin 3 → ℕ) a + S1x96x640.size a ≤ S3x96x640.size a) :
    v.read (Elt F) (v.writes (Elt F) f [⟨Rect.unit (s := S3x96x640) ![2, 0, 0] S1x96x640.size i2, p2⟩, ⟨Rect.unit (s := S3x96x640) ![1, 0, 0] S1x96x640.size i1, p1⟩,
      ⟨Rect.unit (s := S3x96x640) ![0, 0, 0] S1x96x640.size i0, p0⟩]) = stack p0 p1 p2 := by
  funext x
  obtain ⟨q, y, z, rfl⟩ : ∃ q y z, x = ix3 q y z := ⟨x 0, x 1, x 2, eq_ix3 x⟩
  have hin : ∀ (q : Fin 3) (off : Fin 3 → ℕ) (hq : off = ![q.val, 0, 0]) (a : Fin 3), ((ix3 q y z : S3x96x640.Idx) a).val = off a + ((ix3 (0 : Fin 1) y z : S1x96x640.Idx) a).val := by
    intro q off hq a
    subst hq
    match a with
    | ⟨0, _⟩ => show q.val = q.val + 0; rfl
    | ⟨1, _⟩ => show y.val = 0 + y.val; omega
    | ⟨2, _⟩ => show z.val = 0 + z.val; omega
  obtain rfl | rfl | rfl : q = 0 ∨ q = 1 ∨ q = 2 := by fin_cases q <;> simp
  · rw [View.read_writes_cons_unit_of_not_mem v f i2 p2 _ _ rfl (0 : Fin 3) (Or.inl (by show 0 < 2; omega)),
      View.read_writes_cons_unit_of_not_mem v f i1 p1 _ _ rfl (0 : Fin 3) (Or.inl (by show 0 < 1; omega)),
      View.read_writes_cons_unit_of_mem v f i0 p0 _ _ (ix3 (0 : Fin 1) y z) rfl (hin 0 _ rfl)]
    rfl
  · rw [View.read_writes_cons_unit_of_not_mem v f i2 p2 _ _ rfl (0 : Fin 3) (Or.inl (by show 1 < 2; omega)),
      View.read_writes_cons_unit_of_mem v f i1 p1 _ _ (ix3 (0 : Fin 1) y z) rfl (hin 1 _ rfl)]
    rfl
  · rw [View.read_writes_cons_unit_of_mem v f i2 p2 _ _ (ix3 (0 : Fin 1) y z) rfl (hin 2 _ rfl)]
    rfl

theorem t4_trips_fin : ∀ n : Fin 2049, (k0_t4_loop (BitVec.ofNat 32 n.val)).trips = n.val := by decide +kernel
theorem t4_ok_fin : ∀ n : Fin 2049, (k0_t4_loop (BitVec.ofNat 32 n.val)).OK := by decide +kernel
theorem t5_trips_fin : ∀ n : Fin 2049, (k0_t5_loop (BitVec.ofNat 32 n.val)).trips = 0 := by decide +kernel
theorem t5_ok_fin : ∀ n : Fin 2049, (k0_t5_loop (BitVec.ofNat 32 n.val)).OK := by decide +kernel

theorem t4_trips (n : ℕ) (hn : n ≤ 2048) : (k0_t4_loop (BitVec.ofNat 32 n)).trips = n := t4_trips_fin ⟨n, by omega⟩
theorem t5_trips (n : ℕ) (hn : n ≤ 2048) : (k0_t5_loop (BitVec.ofNat 32 n)).trips = 0 := t5_trips_fin ⟨n, by omega⟩

theorem off6_0 (n : ℕ) (hn : n ≤ 2048) (k : Fin (k0_t4_loop (BitVec.ofNat 32 n)).trips) : k0_off6 (BitVec.ofNat 32 n) k 0 = n - 1 - k.val := by
  have hk : k.val < n := k.isLt.trans_eq (t4_trips n hn)
  show ((BitVec.ofNat 32 n - 1#32) - (0#32 + BitVec.ofNat 32 k.val * 1#32)).toNat = _
  rw [BitVec.mul_one, BitVec.zero_add, BitVec.toNat_sub, BitVec.toNat_sub, BitVec.toNat_ofNat, BitVec.toNat_ofNat]
  simp only [BitVec.toNat_ofNat]
  omega

/-- The counts the selection leaves meet the compositing loops' side condition. -/
theorem chk3_of_le (n : ℕ) (hn : n ≤ 2048) : k0_chk3 (BitVec.ofNat 32 n) := by
  refine ⟨t4_ok_fin ⟨n, by omega⟩, fun k a => ?_, t5_ok_fin ⟨n, by omega⟩, fun k => ?_⟩
  · fin_cases a
    show k0_off6 (BitVec.ofNat 32 n) k 0 + 1 ≤ 2048
    rw [off6_0 n hn k]
    have hk : k.val < n := k.isLt.trans_eq (t4_trips n hn)
    omega
  · exact (Nat.not_lt_zero _ (Nat.lt_of_lt_of_eq k.isLt (t5_trips n hn))).elim

section Loops

variable (c : Dev nD) (i : grid0.Coords) (arg1 : Memref sig .tc .vmem S10x8x256 .f32) (harg1 : arg1.IsWhole) (arg2 : Memref sig .tc .vmem S3x96x640 .f32) (harg2 : arg2.IsWhole) (arg3 : Memref sig .tc .vmem S2048x11 .f32) (harg3 : arg3.IsWhole) (arg4 : Memref sig .tc .smem S2048 .i32) (harg4 : arg4.IsWhole) (arg5 : Memref sig .tc .smem S1 .i32) (harg5 : arg5.IsWhole) (arg6 : Memref sig .tc .smem S1x2048 .f32) (harg6 : arg6.IsWhole) (arg7 : Memref sig .tc .smem S8x1 .f32) (harg7 : arg7.IsWhole) (arg8 : Memref sig .tc .vmem S96x640 .f32) (harg8 : arg8.IsWhole) (arg9 : Memref sig .tc .vmem S1x2048 .f32) (harg9 : arg9.IsWhole) (arg10 : Memref sig .tc .vmem S8x1 .f32) (harg10 : arg10.IsWhole) (arg11 : DmaSems sig S_) (arg12 : DmaSems sig S_) (k0_h1 : k0_cond1 i = 1#1)

def inv4 (T : S2048x11.Idx → Elt F .f32) (B : BoundsTy F) (X : IdsTy F) (L : List ℕ) (k : ℕ) (acc : BitVec 32) : sProp 𝕄 :=
  iprop(owns (c : Thread nD τ) arg3 fullShare T ∗ owns (c : Thread nD τ) arg4 fullShare (put X L) ∗ owns (c : Thread nD τ) arg6 fullShare B
    ∗ owns (c : Thread nD τ) arg8 fullShare (rast i T B L k).1 ∗ owns (c : Thread nD τ) arg2 fullShare (rast i T B L k).2)

theorem t4_step (T : S2048x11.Idx → Elt F .f32) (B : BoundsTy F) (X : IdsTy F) (L : List ℕ) (hL : L.length ≤ 2048) (hm : ∀ j ∈ L, j < 2048)
    (v19 : BitVec 32) (hv : v19 = BitVec.ofNat 32 L.length) (k0_hw3 : k0_chk3 v19) (k : Fin (k0_t4_loop v19).trips) (acc : BitVec 32) :
    inv4 (F := F) c i arg2 arg3 arg4 arg6 arg8 T B X L k.val acc
      ⊢ wp frame (wpE (defs₀ (F := F)) 𝒱₀ (c : Thread nD τ) none) Set.univ
        (k0_t4_body (F := F) i arg1 harg1 arg2 harg2 arg3 harg3 arg4 harg4 arg5 harg5 arg6 harg6 arg7 harg7 arg8 harg8 arg9 harg9 arg10 harg10 arg11 arg12 v19 k0_hw3 k acc)
        (fun acc' => inv4 (F := F) c i arg2 arg3 arg4 arg6 arg8 T B X L (k.val + 1) acc') := by
  subst hv
  have hk : k.val < L.length := k.isLt.trans_eq (t4_trips _ hL)
  obtain ⟨g, hg⟩ : ∃ g, g = L[L.length - 1 - k.val]'(by omega) := ⟨_, rfl⟩
  have hg2 : g < 2048 := by rw [hg]; exact hm _ (List.getElem_mem _)
  unfold inv4
  rw [rast_succ i T B L k.val hk, ← hg]
  obtain ⟨s, hs⟩ : ∃ s, s = rast i T B L k.val := ⟨_, rfl⟩
  rw [← hs]
  unfold owns
  iintro ⟨⟨%f3, %hf3, H3⟩, ⟨%f4, %hf4, H4⟩, ⟨%f6, %hf6, H6⟩, ⟨%f8, %hf8, H8⟩, ⟨%f2, %hf2, H2⟩⟩
  have hoff := off6_0 L.length hL k
  have hid : ∀ x, arg4.view.readAt (Elt F) (Rect.unit (s := S2048) (k0_off6 (BitVec.ofNat 32 L.length) k) S1.size (k0_off6_inb (BitVec.ofNat 32 L.length) k0_hw3 k)).toLoadRect f4 x = BitVec.ofNat 32 g := by
    intro x
    rw [readAt_one1 _ _ rfl _ _ (⟨L.length - 1 - k.val, by omega⟩ : Fin 2048) hoff, hf4, put_apply X L (L.length - 1 - k.val) (by omega) _ rfl, hg]
  have hg3 : (BitVec.ofNat 32 g).toNat = g := by rw [BitVec.toNat_ofNat]; omega
  have hchk4 : ∀ v, v = BitVec.ofNat 32 g → k0_chk4 v := by
    intro v hv
    subst hv
    unfold k0_chk4
    intro a
    match a with
    | ⟨0, h0⟩ => show 0 + 1 ≤ 1; omega
    | ⟨1, h1⟩ => show (BitVec.ofNat 32 g).toNat + 1 ≤ 2048; omega
  have hchk5 : ∀ v a b, v = BitVec.ofNat 32 g → k0_chk5 v a b := by
    intro v a b hv
    subst hv
    unfold k0_chk5
    intro _ a
    match a with
    | ⟨0, h0⟩ => show (BitVec.ofNat 32 g).toNat + 1 ≤ 2048; omega
    | ⟨1, h1⟩ => show 0 + 11 ≤ 11; omega
  sl_unfold [k0_t4_body]
  sl_exec (disch := first | exact hchk4 _ (hid _) | exact hchk5 _ _ _ (hid _))
  sl_step
  have he : t4_step.sl.r_1 c arg4 arg6 L k0_hw3 k g f4 f6 hid hchk4 = encAt B g := by
    unfold t4_step.sl.r_1
    refine (readAt_one2 _ _ rfl _ _ (0 : Fin 1) (⟨g, hg2⟩ : Fin 2048) rfl ?_).trans ?_
    · exact (congrArg BitVec.toNat (hid _)).trans hg3
    · rw [hf6]; unfold encAt; rw [dif_pos hg2]
  have hcond : (k0_cond5 (t4_step.sl.v38 c i arg4 arg6 L k0_hw3 k g f4 f6 hid hchk4) (t4_step.sl.v40 c i arg4 arg6 L k0_hw3 k g f4 f6 hid hchk4) = 1#1) ↔ meets i B g := by
    unfold meets t4_step.sl.v38 t4_step.sl.v40
    rw [he]
  isplitl [H3]
  · iexists f3; isplitr; · ipureintro; exact hf3
    iexact H3
  isplitl [H4]
  · iexists f4; isplitr; · ipureintro; exact hf4
    iexact H4
  isplitl [H6]
  · iexists f6; isplitr; · ipureintro; exact hf6
    iexact H6
  by_cases hc : meets i B g
  · have hc' := hcond.mpr hc
    have h45 : t4_step.sl.v45 c i arg3 arg4 arg6 L k0_hw3 k g f3 f4 f6 hid hchk4 hchk5 hc' = rowT T g := by
      unfold t4_step.sl.v45
      rw [← hf3]
      refine readAt_row _ _ g hg2 ?_ rfl _
      exact (congrArg BitVec.toNat (hid _)).trans hg3
    have h8 : arg8.view.readAt (Elt F) (Rect.unit (s := S96x640) ![0, 0] S96x640.size inb_S96x640_S96x640_0_0).toLoadRect f8 = s.1 :=
      (View.readAt_full _ _ _).trans hf8
    have ham : t4_step.sl.r_2 c i arg3 arg4 arg6 arg8 L k0_hw3 k g f3 f4 f6 f8 hid hchk4 hchk5 hc' = k0_pay49 (k0_pay4 (F := F)) (k0_pay5 (F := F) i) (rowT T g) s.1 := by
      unfold t4_step.sl.r_2
      rw [h45, h8]
    unfold gstep
    rw [if_pos hc]
    isplitl [H8]
    · iexists _
      isplitr; swap; · iexact H8
      ipureintro
      rw [dif_pos hc', h45, h8]
      exact View.read_writes_full _ _ _ _ _
    · iexists _
      isplitr; swap; · iexact H2
      ipureintro
      rw [dif_pos hc', h45, ham, read_writes_slabs]
      unfold t4_step.sl.v110 t4_step.sl.v101
      have q0 := (readAt_slab arg2.view f2 0 rfl inb_S3x96x640_S1x96x640_0_0_0).trans (congrArg (fun o => slab o 0) hf2)
      have q1 := (readAt_slab arg2.view f2 1 rfl inb_S3x96x640_S1x96x640_1_0_0).trans (congrArg (fun o => slab o 1) hf2)
      have q2 := (readAt_slab arg2.view f2 2 rfl inb_S3x96x640_S1x96x640_2_0_0).trans (congrArg (fun o => slab o 2) hf2)
      exact congr (congr (congrArg _ (congrArg _ q0)) (congrArg _ q1)) (congrArg _ q2)
  · have hc' : ¬ _ := fun h => hc (hcond.mp h)
    unfold gstep
    rw [if_neg hc]
    isplitl [H8]
    · iexists _
      isplitr; swap; · iexact H8
      ipureintro
      rw [dif_neg hc', hf8]
    · iexists _
      isplitr; swap; · iexact H2
      ipureintro
      rw [dif_neg hc', hf2]

end Loops
end Cert.KernelIdeal.Hand
end
-- ==== Proof.KIBody.lean ====
/- The kernel's body at a grid point: what it leaves in the block of the image and in scratch. -/
module

public import proofs.«01_k».proof.Proof.KISpec
public import proofs.«01_k».proof.Proof.KILoopA
public import proofs.«01_k».proof.Proof.KILoopB
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.CellWrites
public import Idealize.ShloMosaic.Lib.VecWindow
public import Idealize.ShloMosaic.Lib.WritesUnit

@[expose] public section

set_option maxRecDepth 16384

noncomputable section

namespace Cert.KernelIdeal.Hand

open Cert.KernelIdeal Cert.KernelIdeal.Gen Cert.SplatIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One of the ten rows of the Gaussians' inputs. -/
def inRow (G : S10x8x256.Idx → Elt F .f32) (q : Fin 10) : Vec F S1x8x256 .f32 := fun j => G (ix3 q (j 1) (j 2))

/-- A read of a whole row of the inputs. -/
theorem readAt_inRow {sp : Space} (v : View sig .tc sp S10x8x256 .f32) (f : v.ty.Contents (Elt F)) {off : Fin 3 → ℕ} (q : Fin 10) (hq : off = ![q.val, 0, 0])
    (inb : ∀ a, off a + S1x8x256.size a ≤ S10x8x256.size a) :
    v.readAt (Elt F) (Rect.unit (s := S10x8x256) off S1x8x256.size inb).toLoadRect f = inRow (v.read (Elt F) f) q := by
  subst hq
  funext j
  refine congrArg (v.read (Elt F) f) (funext fun a => Fin.ext ?_)
  match a with
  | ⟨0, _⟩ =>
    show q.val + 1 * (j 0).val = q.val
    have : (j 0).val < 1 := (j 0).isLt
    omega
  | ⟨1, _⟩ => show 0 + 1 * (j 1).val = (j 1).val; omega
  | ⟨2, _⟩ => show 0 + 1 * (j 2).val = (j 2).val; omega

section Body
variable (G : S10x8x256.Idx → Elt F .f32)

/-- Which Gaussians are drawn. -/
def validOf : IVec S8x256 1 :=
  k0_pay34 (k0_pay22 (inRow G 1)) (k0_pay30 (inRow G 2)) (k0_pay31 (inRow G 0) (inRow G 2))
/-- Their scales on the screen. -/
def scaleOf : FVec F S8x256 .f32 :=
  k0_pay35 (k0_pay23 (inRow G 3)) (k0_pay24 (inRow G 4)) (k0_pay25 (inRow G 5)) (k0_pay30 (inRow G 2))
/-- Their radii in pixels. -/
def radOf : FVec F S8x256 .f32 :=
  k0_pay36 (k0_pay23 (inRow G 3)) (k0_pay24 (inRow G 4)) (k0_pay25 (inRow G 5)) (k0_pay30 (inRow G 2))
/-- The rows of the pixels they fall in. -/
def rowOf : FVec F S8x256 .f32 := k0_pay38 (k0_pay22 (inRow G 1)) (k0_pay30 (inRow G 2))
/-- The columns of the pixels they fall in. -/
def colOf : FVec F S8x256 .f32 := k0_pay37 (k0_pay31 (inRow G 0) (inRow G 2))
/-- The encoded bounds of all Gaussians. -/
def bndOf : BoundsTy F := k0_pay46 (validOf G) (radOf G) (rowOf G)
/-- Which groups of 256 have a Gaussian that is drawn. -/
def flgOf : FlagsTy F := k0_pay47 (validOf G)
/-- The table of projected Gaussians. -/
def tblOf : S2048x11.Idx → Elt F .f32 :=
  k0_pay1 (k0_pay26 (inRow G 6)) (k0_pay27 (inRow G 7)) (k0_pay28 (inRow G 8)) (k0_pay33 (k0_pay22 (inRow G 1)) (k0_pay30 (inRow G 2)))
    (k0_pay40 (validOf G) (k0_pay39 (k0_pay23 (inRow G 3)) (k0_pay24 (inRow G 4)) (k0_pay25 (inRow G 5)) (k0_pay30 (inRow G 2)) (k0_pay31 (inRow G 0) (inRow G 2))) (Scalar.ofBits .f32 0x4E6E6B28))
    (k0_pay41 (validOf G) (radOf G) (colOf G)) (k0_pay42 (validOf G) (radOf G) (rowOf G)) (k0_pay43 (validOf G) (radOf G) (rowOf G))
    (k0_pay44 (k0_pay29 (inRow G 9)) (validOf G)) (k0_pay45 (scaleOf G)) (k0_pay48 (k0_pay32 (k0_pay31 (inRow G 0) (inRow G 2))))
end Body

theorem chk3_of_eq (n : ℕ) (hn : n ≤ 2048) (v : BitVec 32) (hv : v = BitVec.ofNat 32 n) : k0_chk3 v := by
  rw [hv]; exact chk3_of_le n hn

section Loops
variable (c : Dev nD) (i : grid0.Coords) (arg1 : Memref sig .tc .vmem S10x8x256 .f32) (harg1 : arg1.IsWhole) (arg2 : Memref sig .tc .vmem S3x96x640 .f32) (harg2 : arg2.IsWhole) (arg3 : Memref sig .tc .vmem S2048x11 .f32) (harg3 : arg3.IsWhole) (arg4 : Memref sig .tc .smem S2048 .i32) (harg4 : arg4.IsWhole) (arg5 : Memref sig .tc .smem S1 .i32) (harg5 : arg5.IsWhole) (arg6 : Memref sig .tc .smem S1x2048 .f32) (harg6 : arg6.IsWhole) (arg7 : Memref sig .tc .smem S8x1 .f32) (harg7 : arg7.IsWhole) (arg8 : Memref sig .tc .vmem S96x640 .f32) (harg8 : arg8.IsWhole) (arg9 : Memref sig .tc .vmem S1x2048 .f32) (harg9 : arg9.IsWhole) (arg10 : Memref sig .tc .vmem S8x1 .f32) (harg10 : arg10.IsWhole)

/-- The first grid point projects the Gaussians into scratch, lists the drawn ones and draws its block. -/
theorem body_first (h1 : k0_cond1 i = 1#1) (G : S10x8x256.Idx → Elt F .f32) (W : Waits sig Unit) (K : PUnit → sProp 𝕄) :
    iprop(owns (c : Thread nD τ) arg1 fullShare G ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ semVal ((c : Thread nD τ), SemLoc.dma 3) 0 ∗ semVal ((c : Thread nD τ), SemLoc.dma 4) 0
        ∗ owes (c : Thread nD τ) 0 W
        ∗ (iprop(owns (c : Thread nD τ) arg1 fullShare G
            ∗ owns (c : Thread nD τ) arg2 fullShare (rast i (tblOf G) (bndOf G) (sel (bndOf G) (flgOf G) 8) (sel (bndOf G) (flgOf G) 8).length).2
            ∗ owns (c : Thread nD τ) arg3 fullShare (tblOf G) ∗ (∃ X, owns (c : Thread nD τ) arg4 fullShare (put X (sel (bndOf G) (flgOf G) 8)))
            ∗ owns (c : Thread nD τ) arg5 fullShare (fun _ => BitVec.ofNat 32 (sel (bndOf G) (flgOf G) 8).length) ∗ owns (c : Thread nD τ) arg6 fullShare (bndOf G)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ semVal ((c : Thread nD τ), SemLoc.dma 3) 0 ∗ semVal ((c : Thread nD τ), SemLoc.dma 4) 0
            ∗ (∃ W', owes (c : Thread nD τ) 0 W')) -∗ K ⟨⟩))
      ⊢ wp frame (wpE (defs₀ (F := F)) 𝒱₀ (c : Thread nD τ) none) Set.univ
        (cc0__render_kernel i arg1 harg1 arg2 harg2 arg3 harg3 arg4 harg4 arg5 harg5 arg6 harg6
          arg7 harg7 arg8 harg8 arg9 harg9 arg10 harg10 cc0_scratch8 cc0_scratch9) K := by
  simp only [cc0__render_kernel_eq_skeleton]
  unfold cc0__render_kernel_skel
  rw [dif_pos h1]
  simp only [k0_part1_eq_skeleton, k0_part2_eq_skeleton, k0_part3_eq_skeleton]
  unfold k0_part1_skel k0_part2_skel k0_part3_skel
  unfold owns
  iintro ⟨⟨%f1, %hf1, H1⟩, ⟨%d2, %f2, -, H2⟩, ⟨%d3, %f3, -, H3⟩, ⟨%d4, %f4, %hf4, H4⟩, ⟨%d5, %f5, -, H5⟩, ⟨%d6, %f6, -, H6⟩, ⟨%d7, %f7, -, H7⟩, ⟨%d8, %f8, -, H8⟩,
    ⟨%d9, %f9, -, H9⟩, ⟨%d10, %f10, -, H10⟩, Hq0, Hq1, HW, Hk⟩
  sl_exec
  have hrow : ∀ (q : Fin 10) (off : Fin 3 → ℕ) (hq : off = ![q.val, 0, 0]) (inb : ∀ a, off a + S1x8x256.size a ≤ S10x8x256.size a),
      arg1.view.readAt (Elt F) (Rect.unit (s := S10x8x256) off S1x8x256.size inb).toLoadRect f1 = inRow G q := by
    intro q off hq inb
    rw [← hf1]; exact readAt_inRow _ _ q hq inb
  have r0 := hrow 0 ![0, 0, 0] rfl inb_S10x8x256_S1x8x256_0_0_0
  have r1 := hrow 1 ![1, 0, 0] rfl inb_S10x8x256_S1x8x256_1_0_0
  have r2 := hrow 2 ![2, 0, 0] rfl inb_S10x8x256_S1x8x256_2_0_0
  have r3 := hrow 3 ![3, 0, 0] rfl inb_S10x8x256_S1x8x256_3_0_0
  have r4 := hrow 4 ![4, 0, 0] rfl inb_S10x8x256_S1x8x256_4_0_0
  have r5 := hrow 5 ![5, 0, 0] rfl inb_S10x8x256_S1x8x256_5_0_0
  have r6 := hrow 6 ![6, 0, 0] rfl inb_S10x8x256_S1x8x256_6_0_0
  have r7 := hrow 7 ![7, 0, 0] rfl inb_S10x8x256_S1x8x256_7_0_0
  have r8 := hrow 8 ![8, 0, 0] rfl inb_S10x8x256_S1x8x256_8_0_0
  have r9 := hrow 9 ![9, 0, 0] rfl inb_S10x8x256_S1x8x256_9_0_0
  have h3 : arg3.view.read (Elt F) (arg3.view.writes (Elt F) arg3.view.junk (body_first.sl.H3_1 c arg1 f1)) = tblOf G := by
    unfold body_first.sl.H3_1
    refine (View.read_writes_full _ _ _ _ _).trans ?_
    dsimp only
    rw [r0, r1, r2, r3, r4, r5, r6, r7, r8, r9]
    rfl
  have h6 : arg6.view.read (Elt F) (arg6.view.writes (Elt F) arg6.view.junk [⟨Rect.whole S1x2048, body_first.sl.dma16 c arg1 arg9 f1 f9⟩]) = bndOf G := by
    unfold body_first.sl.dma16
    refine (View.read_writes_whole _ _ _).trans ?_
    show arg9.view.read (Elt F) _ = _
    unfold body_first.sl.H9_1
    refine (View.read_writes_full _ _ _ _ _).trans ?_
    dsimp only
    rw [r0, r1, r2, r3, r4, r5]
    rfl
  have h7 : arg7.view.read (Elt F) (arg7.view.writes (Elt F) arg7.view.junk [⟨Rect.whole S8x1, body_first.sl.dma16_1 c arg1 arg10 f1 f10⟩]) = flgOf G := by
    unfold body_first.sl.dma16_1
    refine (View.read_writes_whole _ _ _).trans ?_
    show arg10.view.read (Elt F) _ = _
    unfold body_first.sl.H10_1
    refine (View.read_writes_full _ _ _ _ _).trans ?_
    dsimp only
    rw [r0, r1, r2]
    rfl
  have ht1 : Scf.trips k0_t1_loop.lb k0_t1_loop.ub k0_t1_loop.st = 8 := by decide +kernel
  have hlen : (sel (bndOf G) (flgOf G) 8).length ≤ 2048 := sel_length _ _ 8
  iapply (Scf.wp_for_bind frame (wpE (defs₀ (F := F)) 𝒱₀ (c : Thread nD τ) none) Set.univ _ _ _ _ _ _
    (fun n acc' => inv1 (F := F) c arg4 arg6 arg7 (bndOf G) (flgOf G) d4 n acc')
    (fun n acc' => t1_step c i arg1 harg1 arg2 harg2 arg3 harg3 arg4 harg4 arg5 harg5 arg6 harg6
          arg7 harg7 arg8 harg8 arg9 harg9 arg10 harg10 cc0_scratch8 cc0_scratch9 h1 (bndOf G) (flgOf G) d4 n acc')) $$ [H4 H6 H7]
  · unfold inv1 owns
    rw [sel_zero, put_nil]
    isplitr; · ipureintro; rfl
    isplitl [H4]
    · iexists _
      isplitr; swap; · iexact H4
      ipureintro; exact hf4
    isplitl [H6]
    · iexists _
      isplitr; swap; · iexact H6
      ipureintro; exact h6
    iexists _
    isplitr; swap; · iexact H7
    ipureintro; exact h7
  iintro %acc1 HI
  unfold inv1
  icases HI with ⟨%hacc1, H4, H6, H7⟩
  rw [ht1] at hacc1
  subst hacc1
  rw [ht1]
  simp only [pure_bind]
  sl_exec (disch := exact chk3_of_le _ hlen)
  have ht4 := t4_trips _ hlen
  have ht5 := t5_trips _ hlen
  iapply (Scf.wp_for_bind frame (wpE (defs₀ (F := F)) 𝒱₀ (c : Thread nD τ) none) Set.univ _ _ _ _ _ _
    (fun n acc' => inv4 (F := F) c i arg2 arg3 arg4 arg6 arg8 (tblOf G) (bndOf G) d4 (sel (bndOf G) (flgOf G) 8) n acc')
    (fun n acc' => t4_step c i arg1 harg1 arg2 harg2 arg3 harg3 arg4 harg4 arg5 harg5 arg6 harg6 arg7 harg7 arg8 harg8 arg9 harg9 arg10 harg10 cc0_scratch8 cc0_scratch9 (tblOf G) (bndOf G) d4 (sel (bndOf G) (flgOf G) 8) hlen
      (fun j hj => lt_of_mem_sel hj) _ rfl _ n acc')) $$ [H2 H3 H4 H6 H8]
  · unfold inv4 owns
    isplitl [H3]
    · iexists _
      isplitr; swap; · iexact H3
      ipureintro; exact h3
    isplitl [H4]; · iexact H4
    isplitl [H6]; · iexact H6
    isplitl [H8]
    · iexists _
      isplitr; swap; · iexact H8
      ipureintro; exact View.read_writes_full _ _ _ _ _
    iexists _
    isplitr; swap; · iexact H2
    ipureintro; exact View.read_writes_full _ _ _ _ _
  iintro %acc4 HI
  rw [show Scf.trips (k0_t4_loop _).lb _ _ = _ from ht4]
  unfold inv4
  icases HI with ⟨H3, H4, H6, H8, H2⟩
  iapply (Scf.wp_for_bind frame (wpE (defs₀ (F := F)) 𝒱₀ (c : Thread nD τ) none) Set.univ _ _ _ _ _ _
    (fun n acc' => iprop(⌜acc' = acc4⌝))
    (fun n acc' => (Nat.not_lt_zero _ (Nat.lt_of_lt_of_eq n.isLt ht5)).elim)) $$ []
  · ipureintro; rfl
  iintro %acc5 %hacc5
  sl_exec
  sl_step
  iapply Hk
  unfold owns
  isplitl [H1]
  · iexists f1
    isplitr; · ipureintro; exact hf1
    iexact H1
  isplitl [H2]; · iexact H2
  isplitl [H3]; · iexact H3
  isplitl [H4]; · iexists d4; iexact H4
  isplitl [H5]
  · iexists _
    isplitr; swap; · iexact H5
    ipureintro; exact View.read_writes_full _ _ _ _ _
  isplitl [H6]; · iexact H6
  isplitl [H7]; · iexists _; iexact H7
  isplitl [H8]; · iexists _; iexact H8
  isplitl [H9]
  · iexists _, _; isplitr; swap; · iexact H9
    ipureintro; rfl
  isplitl [H10]
  · iexists _, _; isplitr; swap; · iexact H10
    ipureintro; rfl
  isplitl [Hq0]; · iexact Hq0
  isplitl [Hq1]; · iexact Hq1
  iexists _; iexact HW
/-- Every later grid point finds the table, the bounds and the list in scratch and draws its block from them. -/
theorem body_rest (h1 : ¬ k0_cond1 i = 1#1) (G : S10x8x256.Idx → Elt F .f32) (G1 : S10x8x256.Idx → Elt F .f32) (d4 : IdsTy F) (W : Waits sig Unit) (K : PUnit → sProp 𝕄) :
    iprop(owns (c : Thread nD τ) arg1 fullShare G1 ∗ (∃ d, owns (c : Thread nD τ) arg2 fullShare d)
        ∗ owns (c : Thread nD τ) arg3 fullShare (tblOf G) ∗ owns (c : Thread nD τ) arg4 fullShare (put d4 (sel (bndOf G) (flgOf G) 8))
        ∗ owns (c : Thread nD τ) arg5 fullShare (fun _ => BitVec.ofNat 32 (sel (bndOf G) (flgOf G) 8).length) ∗ owns (c : Thread nD τ) arg6 fullShare (bndOf G)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ semVal ((c : Thread nD τ), SemLoc.dma 3) 0 ∗ semVal ((c : Thread nD τ), SemLoc.dma 4) 0
        ∗ owes (c : Thread nD τ) 0 W
        ∗ (iprop(owns (c : Thread nD τ) arg1 fullShare G1
            ∗ owns (c : Thread nD τ) arg2 fullShare (rast i (tblOf G) (bndOf G) (sel (bndOf G) (flgOf G) 8) (sel (bndOf G) (flgOf G) 8).length).2
            ∗ owns (c : Thread nD τ) arg3 fullShare (tblOf G) ∗ (∃ X, owns (c : Thread nD τ) arg4 fullShare (put X (sel (bndOf G) (flgOf G) 8)))
            ∗ owns (c : Thread nD τ) arg5 fullShare (fun _ => BitVec.ofNat 32 (sel (bndOf G) (flgOf G) 8).length) ∗ owns (c : Thread nD τ) arg6 fullShare (bndOf G)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ semVal ((c : Thread nD τ), SemLoc.dma 3) 0 ∗ semVal ((c : Thread nD τ), SemLoc.dma 4) 0
            ∗ (∃ W', owes (c : Thread nD τ) 0 W')) -∗ K ⟨⟩))
      ⊢ wp frame (wpE (defs₀ (F := F)) 𝒱₀ (c : Thread nD τ) none) Set.univ
        (cc0__render_kernel i arg1 harg1 arg2 harg2 arg3 harg3 arg4 harg4 arg5 harg5 arg6 harg6
          arg7 harg7 arg8 harg8 arg9 harg9 arg10 harg10 cc0_scratch8 cc0_scratch9) K := by
  simp only [cc0__render_kernel_eq_skeleton]
  unfold cc0__render_kernel_skel
  rw [dif_neg h1]
  have hlen : (sel (bndOf G) (flgOf G) 8).length ≤ 2048 := sel_length _ _ 8
  unfold owns
  iintro ⟨⟨%f1, %hf1, H1⟩, ⟨%d2, %f2, -, H2⟩, ⟨%f3, %hf3, H3⟩, ⟨%f4, %hf4, H4⟩, ⟨%f5, %hf5, H5⟩, ⟨%f6, %hf6, H6⟩, ⟨%d7, %f7, -, H7⟩, ⟨%d8, %f8, -, H8⟩,
    ⟨%d9, %f9, -, H9⟩, ⟨%d10, %f10, -, H10⟩, Hq0, Hq1, HW, Hk⟩
  have hw : ∀ x, arg5.view.readAt (Elt F) (Rect.unit (s := S1) ![0] S1.size inb_S1_S1_0).toLoadRect f5 x = BitVec.ofNat 32 (sel (bndOf G) (flgOf G) 8).length := by
    intro x
    rw [View.readAt_full, hf5]
  simp only [pure_bind]
  sl_exec (disch := exact chk3_of_eq _ hlen _ (hw _))
  have hr : body_rest.sl.r c arg5 f5 = BitVec.ofNat 32 (sel (bndOf G) (flgOf G) 8).length := hw _
  have ht4 : (k0_t4_loop (body_rest.sl.r c arg5 f5)).trips = (sel (bndOf G) (flgOf G) 8).length := by rw [hr]; exact t4_trips _ hlen
  have ht5 : (k0_t5_loop (body_rest.sl.r c arg5 f5)).trips = 0 := by rw [hr]; exact t5_trips _ hlen
  iapply (Scf.wp_for_bind frame (wpE (defs₀ (F := F)) 𝒱₀ (c : Thread nD τ) none) Set.univ _ _ _ _ _ _
    (fun n acc' => inv4 (F := F) c i arg2 arg3 arg4 arg6 arg8 (tblOf G) (bndOf G) d4 (sel (bndOf G) (flgOf G) 8) n acc')
    (fun n acc' => t4_step c i arg1 harg1 arg2 harg2 arg3 harg3 arg4 harg4 arg5 harg5 arg6 harg6 arg7 harg7 arg8 harg8 arg9 harg9 arg10 harg10 cc0_scratch8 cc0_scratch9 (tblOf G) (bndOf G) d4 (sel (bndOf G) (flgOf G) 8) hlen
      (fun j hj => lt_of_mem_sel hj) _ hr _ n acc')) $$ [H2 H3 H4 H6 H8]
  · unfold inv4 owns
    isplitl [H3]
    · iexists _
      isplitr; swap; · iexact H3
      ipureintro; exact hf3
    isplitl [H4]
    · iexists _
      isplitr; swap; · iexact H4
      ipureintro; exact hf4
    isplitl [H6]
    · iexists _
      isplitr; swap; · iexact H6
      ipureintro; exact hf6
    isplitl [H8]
    · iexists _
      isplitr; swap; · iexact H8
      ipureintro; exact View.read_writes_full _ _ _ _ _
    iexists _
    isplitr; swap; · iexact H2
    ipureintro; exact View.read_writes_full _ _ _ _ _
  iintro %acc4 HI
  rw [show Scf.trips (k0_t4_loop _).lb _ _ = _ from ht4]
  unfold inv4
  icases HI with ⟨H3, H4, H6, H8, H2⟩
  iapply (Scf.wp_for_bind frame (wpE (defs₀ (F := F)) 𝒱₀ (c : Thread nD τ) none) Set.univ _ _ _ _ _ _
    (fun n acc' => iprop(⌜acc' = acc4⌝))
    (fun n acc' => (Nat.not_lt_zero _ (Nat.lt_of_lt_of_eq n.isLt ht5)).elim)) $$ []
  · ipureintro; rfl
  iintro %acc5 %hacc5
  sl_exec
  sl_step
  iapply Hk
  unfold owns
  isplitl [H1]
  · iexists f1
    isplitr; · ipureintro; exact hf1
    iexact H1
  isplitl [H2]; · iexact H2
  isplitl [H3]; · iexact H3
  isplitl [H4]; · iexists d4; iexact H4
  isplitl [H5]
  · iexists _
    isplitr; swap; · iexact H5
    ipureintro; exact hf5
  isplitl [H6]; · iexact H6
  isplitl [H7]
  · iexists _, _; isplitr; swap; · iexact H7
    ipureintro; rfl
  isplitl [H8]; · iexists _; iexact H8
  isplitl [H9]
  · iexists _, _; isplitr; swap; · iexact H9
    ipureintro; rfl
  isplitl [H10]
  · iexists _, _; isplitr; swap; · iexact H10
    ipureintro; rfl
  isplitl [Hq0]; · iexact Hq0
  isplitl [Hq1]; · iexact Hq1
  iexists _; iexact HW

end Loops
end Cert.KernelIdeal.Hand
end
-- ==== Proof.KIRun.lean ====
/- The run of the kernel over its grid: what it leaves in memory. -/
module

public import proofs.«01_k».proof.Proof.KISpec
public import proofs.«01_k».proof.Proof.KILoopA
public import proofs.«01_k».proof.Proof.KILoopB
public import proofs.«01_k».proof.Proof.KIBody
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.CellWrites
public import Idealize.ShloMosaic.Lib.VecWindow
public import Idealize.ShloMosaic.Lib.WritesUnit

@[expose] public section

set_option maxRecDepth 16384

noncomputable section

namespace Cert.KernelIdeal.Hand

open Cert.KernelIdeal Cert.KernelIdeal.Gen Cert.SplatIdeal
open Idealize.ShloMosaic Idealize.ShloMosaic.ValueIdx Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev sc0 : Memref sig .tc .vmem S2048x11 .f32 := Memref.whole cc0_scratch0
abbrev sc1 : Memref sig .tc .smem S2048 .i32 := Memref.whole cc0_scratch1
abbrev sc2 : Memref sig .tc .smem S1 .i32 := Memref.whole cc0_scratch2
abbrev sc3 : Memref sig .tc .smem S1x2048 .f32 := Memref.whole cc0_scratch3
abbrev sc4 : Memref sig .tc .smem S8x1 .f32 := Memref.whole cc0_scratch4
abbrev sc5 : Memref sig .tc .vmem S96x640 .f32 := Memref.whole cc0_scratch5
abbrev sc6 : Memref sig .tc .vmem S1x2048 .f32 := Memref.whole cc0_scratch6
abbrev sc7 : Memref sig .tc .vmem S8x1 .f32 := Memref.whole cc0_scratch7

/-- The host's computation before the kernel, at the algebra that also counts the kernel's own copies. -/
theorem hmainU (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

/-- The kernel's own two copies' semaphores. -/
abbrev osem0 : Fin 2 → SemLoc sig := fun j => (![SemLoc.dma 3, SemLoc.dma 4] : Fin 2 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0) := by
  rw [Pipeline.ownSems0_eq_of_list c osem0 [0, 1] (by decide) (by decide)]; rfl

/-- The buffers outside the pipeline that the body reads: none. -/
abbrev noBufs (c : Dev nD) : sProp 𝕄 := bigSep (∅ : Finset (Ref sig .tc)) (fun b => ((c : Thread nD τ).loc b) ↦{fullShare} V m c b)

theorem start_eq (c : Dev nD) :
    (Pipeline.ΦD osem0 spec0 ∅ (V m) c : sProp 𝕄)
      = iprop(iprop((∃ d, owns (c : Thread nD τ) sc0 fullShare d) ∗ (∃ d, owns (c : Thread nD τ) sc5 fullShare d)
                ∗ (∃ d, owns (c : Thread nD τ) sc6 fullShare d) ∗ (∃ d, owns (c : Thread nD τ) sc7 fullShare d)
                ∗ (∃ d, owns (c : Thread nD τ) sc1 fullShare d) ∗ (∃ d, owns (c : Thread nD τ) sc2 fullShare d)
                ∗ (∃ d, owns (c : Thread nD τ) sc3 fullShare d) ∗ (∃ d, owns (c : Thread nD τ) sc4 fullShare d))
          ∗ (∃ r, prngReg c r)
          ∗ iprop(semVal ((c : Thread nD τ), SemLoc.dma 3) 0 ∗ semVal ((c : Thread nD τ), SemLoc.dma 4) 0)
          ∗ noBufs m c) := by
  rw [Pipeline.ΦD_eq, scopedRest0_eq, ownSems00_eq]
  simp only [sc0, sc1, sc2, sc3, sc4, sc5, sc6, sc7, owns_whole]; try rfl

/-- The first grid point. -/
abbrev pt0 : Fin cfg0.N := ⟨0, by decide⟩

/-- The Gaussians' inputs as the kernel reads them. -/
def gin (c : Dev nD) : S10x8x256.Idx → Elt F .f32 := iblk m c 0 pt0

/-- The drawn Gaussians in order. -/
def drawn (G : S10x8x256.Idx → Elt F .f32) : List ℕ := sel (bndOf G) (flgOf G) 8

/-- The block of the image drawn at a grid point. -/
def blockOf (i : grid0.Coords) (G : S10x8x256.Idx → Elt F .f32) : S3x96x640.Idx → Elt F .f32 :=
  (rast i (tblOf G) (bndOf G) (drawn G) (drawn G).length).2

/-- Scratch after the first grid point: the table, the bounds, the list and its length. -/
def held (c : Dev nD) : sProp 𝕄 :=
  iprop(iprop(owns (c : Thread nD τ) sc0 fullShare (tblOf (gin m c)) ∗ (∃ d, owns (c : Thread nD τ) sc5 fullShare d)
                ∗ (∃ d, owns (c : Thread nD τ) sc6 fullShare d) ∗ (∃ d, owns (c : Thread nD τ) sc7 fullShare d)
                ∗ (∃ X, owns (c : Thread nD τ) sc1 fullShare (put X (drawn (gin m c))))
                ∗ owns (c : Thread nD τ) sc2 fullShare (fun _ => BitVec.ofNat 32 (drawn (gin m c)).length)
                ∗ owns (c : Thread nD τ) sc3 fullShare (bndOf (gin m c)) ∗ (∃ d, owns (c : Thread nD τ) sc4 fullShare d))
          ∗ (∃ r, prngReg c r)
          ∗ iprop(semVal ((c : Thread nD τ), SemLoc.dma 3) 0 ∗ semVal ((c : Thread nD τ), SemLoc.dma 4) 0)
          ∗ noBufs m c)

theorem held_forget (c : Dev nD) : held m c ⊢ (Pipeline.ΦD osem0 spec0 ∅ (V m) c : sProp 𝕄) := by
  rw [start_eq]
  unfold held
  iintro ⟨⟨H0, H5, H6, H7, ⟨%X, H1⟩, H2, H3, H4⟩, Hg, Hq, Hh⟩
  isplitl [H0 H1 H2 H3 H4 H5 H6 H7]
  · isplitl [H0]; · iexists _; iexact H0
    isplitl [H5]; · iexact H5
    isplitl [H6]; · iexact H6
    isplitl [H7]; · iexact H7
    isplitl [H1]; · iexists _; iexact H1
    isplitl [H2]; · iexists _; iexact H2
    isplitl [H3]; · iexists _; iexact H3
    iexact H4
  isplitl [Hg]; · iexact Hg
  isplitl [Hq]; · iexact Hq
  iexact Hh

/-- The pipeline's data: the arrays as found, each block after its point, scratch between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => blockOf (grid0.coords t) (gin m c)
  Φ t := if t.val = 0 then Pipeline.ΦD osem0 spec0 ∅ (V m) c else held m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = blockOf (grid0.coords t) (gin m c) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

theorem Φ_succ (c : Dev nD) (t : Fin cfg0.N) : (dats m 0 c).Φ t.succ = held m c := by
  dsimp only [dats]
  exact if_neg (Nat.succ_ne_zero t.val)

theorem first_iff (t : Fin cfg0.N) : k0_cond1 (grid0.coords t) = 1#1 ↔ t.val = 0 :=
  (by decide +kernel : ∀ t : Fin cfg0.N, k0_cond1 (grid0.coords t) = 1#1 ↔ t.val = 0) t

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  rw [Φ_succ, after0_0, after0_1]
  simp only [before0_0]
  unfold Dat.owesAt Pipeline.owesWithin
  rw [show (dats m 0 c).owed t.castSucc = 0 from rfl, show (dats m 0 c).owed t.succ = 0 from rfl]
  by_cases h : t.val = 0
  · rw [show (dats m 0 c).Φ t.castSucc = Pipeline.ΦD osem0 spec0 ∅ (V m) c from if_pos h, start_eq]
    obtain rfl : t = pt0 := Fin.ext h
    iintro ⟨⟨⟨H0, H5, H6, H7, H1, H2, H3, H4⟩, Hg, ⟨Hq0, Hq1⟩, Hh⟩, ⟨%W, -, HW⟩, ⟨%e0, Hi⟩, ⟨%e1, Ho⟩⟩
    iapply (body_first c (grid0.coords pt0) _ _ _ _ sc0 (Memref.isWhole_whole _) sc1 (Memref.isWhole_whole _) sc2 (Memref.isWhole_whole _) sc3 (Memref.isWhole_whole _)
      sc4 (Memref.isWhole_whole _) sc5 (Memref.isWhole_whole _) sc6 (Memref.isWhole_whole _) sc7 (Memref.isWhole_whole _) ((first_iff pt0).mpr rfl) (gin m c) W _)
    isplitl [Hi]; · iexact Hi
    isplitl [Ho]; · iexists _; iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hq0]; · iexact Hq0
    isplitl [Hq1]; · iexact Hq1
    isplitl [HW]; · iexact HW
    iintro ⟨Hi, Ho, H0, H1, H2, H3, H4, H5, H6, H7, Hq0, Hq1, ⟨%W', HW'⟩⟩
    isplitl [H0 H1 H2 H3 H4 H5 H6 H7 Hg Hq0 Hq1 Hh]
    · unfold held
      isplitl [H0 H1 H2 H3 H4 H5 H6 H7]
      · isplitl [H0]; · iexact H0
        isplitl [H5]; · iexact H5
        isplitl [H6]; · iexact H6
        isplitl [H7]; · iexact H7
        isplitl [H1]; · iexact H1
        isplitl [H2]; · iexact H2
        isplitl [H3]; · iexact H3
        iexact H4
      isplitl [Hg]; · iexact Hg
      isplitl [Hq0 Hq1]
      · isplitl [Hq0]; · iexact Hq0
        iexact Hq1
      iexact Hh
    isplitl [HW']
    · iexists W'; isplitr; · ipureintro; exact fun _ _ => Or.inl trivial
      iexact HW'
    isplitl [Hi]; · iexact Hi
    iexact Ho
  · rw [show (dats m 0 c).Φ t.castSucc = held m c from if_neg h]
    unfold held
    iintro ⟨⟨⟨H0, H5, H6, H7, ⟨%X, H1⟩, H2, H3, H4⟩, Hg, ⟨Hq0, Hq1⟩, Hh⟩, ⟨%W, -, HW⟩, ⟨%e0, Hi⟩, ⟨%e1, Ho⟩⟩
    iapply (body_rest c (grid0.coords t) _ _ _ _ sc0 (Memref.isWhole_whole _) sc1 (Memref.isWhole_whole _) sc2 (Memref.isWhole_whole _) sc3 (Memref.isWhole_whole _)
      sc4 (Memref.isWhole_whole _) sc5 (Memref.isWhole_whole _) sc6 (Memref.isWhole_whole _) sc7 (Memref.isWhole_whole _) (fun h' => h ((first_iff t).mp h')) (gin m c) (iblk m c 0 t) X W _)
    isplitl [Hi]; · iexact Hi
    isplitl [Ho]; · iexists _; iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hq0]; · iexact Hq0
    isplitl [Hq1]; · iexact Hq1
    isplitl [HW]; · iexact HW
    iintro ⟨Hi, Ho, H0, H1, H2, H3, H4, H5, H6, H7, Hq0, Hq1, ⟨%W', HW'⟩⟩
    isplitl [H0 H1 H2 H3 H4 H5 H6 H7 Hg Hq0 Hq1 Hh]
    · isplitl [H0 H1 H2 H3 H4 H5 H6 H7]
      · isplitl [H0]; · iexact H0
        isplitl [H5]; · iexact H5
        isplitl [H6]; · iexact H6
        isplitl [H7]; · iexact H7
        isplitl [H1]; · iexact H1
        isplitl [H2]; · iexact H2
        isplitl [H3]; · iexact H3
        iexact H4
      isplitl [Hg]; · iexact Hg
      isplitl [Hq0 Hq1]
      · isplitl [Hq0]; · iexact Hq0
        iexact Hq1
      iexact Hh
    isplitl [HW']
    · iexists W'; isplitr; · ipureintro; exact fun _ _ => Or.inl trivial
      iexact HW'
    isplitl [Hi]; · iexact Hi
    iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- A run of the kernel leaves the arrays as the pipeline's data says and every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ 𝒱₀ ownSemFacts0 ∅ (Finset.empty_subset _) m ρ main
    (hbody := fun c => (body_obligation m c).loose) (hshare := fun c => (dats m 0 c).share_full fun _ => rfl)
    (howed := fun _ _ => rfl) (V := V m) (hmain := hmainU m 𝒱₀) (hA := A_eq m)
    (hin := fun c => by rw [show (dats m 0 c).Φ 0 = Pipeline.ΦD osem0 spec0 ∅ (V m) c from rfl])
    (hout := fun c => held_forget m c)

/-- The kernel leaves its six arguments as they were, whatever they hold, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand
end
-- ==== Proof.RefRun.lean ====
/- The reference's run restated over one trip's step: the run's own values at a valuation that holds a state are that
   state's, so the results are the fields of `step` iterated from `init`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_12 : V0 (Proc.devRef .tc main_v64_12) = s.main_v64_12
  f_0 : V0 (Proc.devRef .tc main_v64_0) = s.main_v64_0
  f_1 : V0 (Proc.devRef .tc main_v64_1) = s.main_v64_1
  f_2 : V0 (Proc.devRef .tc main_v64_2) = s.main_v64_2
  f_3 : V0 (Proc.devRef .tc main_v64_3) = s.main_v64_3
  f_4 : V0 (Proc.devRef .tc main_v64_4) = s.main_v64_4
  f_5 : V0 (Proc.devRef .tc main_v64_5) = s.main_v64_5
  f_6 : V0 (Proc.devRef .tc main_v64_6) = s.main_v64_6
  f_7 : V0 (Proc.devRef .tc main_v64_7) = s.main_v64_7
  f_8 : V0 (Proc.devRef .tc main_v64_8) = s.main_v64_8
  n_11 : V0 (Proc.devRef .tc main_v64_11) = constantI S_ 32 (BitVec.ofNat 32 j)
  k_9 : V0 (Proc.devRef .tc main_v64_9) = Cert.ReferenceIdeal.Step.K_main_v7 (F := F)
  k_10 : V0 (Proc.devRef .tc main_v64_10) = Cert.ReferenceIdeal.Step.K_main_v6 (F := F)

variable {V0 s j}

set_option maxRecDepth 8192 in
theorem al_0 (h : Holds V0 s j) : (Host.dynamicSlice S1 (V0 (Proc.devRef .tc main_v64_0)) (fun k => (((![V0 (Proc.devRef .tc main_v64_11)] : Fin 1 → (⟨S_, .i32⟩ : BufTy).Contents (Elt F))) k (Shape.Idx.first h_S_)).toInt) sliceFits_S2048_S1 : (Proc.devRef .tc main_while0b_call3_v0 : DevRef τ sig).ty.Contents (Elt F)) = Cert.ReferenceIdeal.Step.b0 j s := by
  unfold Cert.ReferenceIdeal.Step.b0
  rw [h.f_0, h.n_11]
  try rfl
set_option maxRecDepth 8192 in
theorem al_1 (h : Holds V0 s j) : (shapeCast S_ (Host.dynamicSlice S1 (V0 (Proc.devRef .tc main_v64_0)) (fun k => (((![V0 (Proc.devRef .tc main_v64_11)] : Fin 1 → (⟨S_, .i32⟩ : BufTy).Contents (Elt F))) k (Shape.Idx.first h_S_)).toInt) sliceFits_S2048_S1) shapeCasts_S1_S_ : (Proc.devRef .tc main_while0b_v66 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (Host.dynamicSlice S1 (V0 (Proc.devRef .tc main_v64_1)) (fun k => (((![V0 (Proc.devRef .tc main_v64_11)] : Fin 1 → (⟨S_, .i32⟩ : BufTy).Contents (Elt F))) k (Shape.Idx.first h_S_)).toInt) sliceFits_S2048_S1 : (Proc.devRef .tc main_while0b_call4_v0 : DevRef τ sig).ty.Contents (Elt F)) = Cert.ReferenceIdeal.Step.b2 j s := by
  unfold Cert.ReferenceIdeal.Step.b2
  rw [h.f_1, h.n_11]
  try rfl
set_option maxRecDepth 8192 in
theorem al_3 (h : Holds V0 s j) : (shapeCast S_ (Host.dynamicSlice S1 (V0 (Proc.devRef .tc main_v64_1)) (fun k => (((![V0 (Proc.devRef .tc main_v64_11)] : Fin 1 → (⟨S_, .i32⟩ : BufTy).Contents (Elt F))) k (Shape.Idx.first h_S_)).toInt) sliceFits_S2048_S1) shapeCasts_S1_S_ : (Proc.devRef .tc main_while0b_v67 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (Host.dynamicSlice S1 (V0 (Proc.devRef .tc main_v64_2)) (fun k => (((![V0 (Proc.devRef .tc main_v64_11)] : Fin 1 → (⟨S_, .i32⟩ : BufTy).Contents (Elt F))) k (Shape.Idx.first h_S_)).toInt) sliceFits_S2048_S1 : (Proc.devRef .tc main_while0b_call5_v0 : DevRef τ sig).ty.Contents (Elt F)) = Cert.ReferenceIdeal.Step.b4 j s := by
  unfold Cert.ReferenceIdeal.Step.b4
  rw [h.f_2, h.n_11]
  try rfl
set_option maxRecDepth 8192 in
theorem al_5 (h : Holds V0 s j) : (res_main_while0b_v68 V0 : (Proc.devRef .tc main_while0b_v68 : DevRef τ sig).ty.Contents (Elt F)) = Cert.ReferenceIdeal.Step.b5 j s := by
  unfold res_main_while0b_v68 Cert.ReferenceIdeal.Step.b5
  rw [← al_4 h]
  try rfl
set_option maxRecDepth 8192 in
theorem al_6 (h : Holds V0 s j) : (Host.dynamicSlice S1 (V0 (Proc.devRef .tc main_v64_3)) (fun k => (((![V0 (Proc.devRef .tc main_v64_11)] : Fin 1 → (⟨S_, .i32⟩ : BufTy).Contents (Elt F))) k (Shape.Idx.first h_S_)).toInt) sliceFits_S2048_S1 : (Proc.devRef .tc main_while0b_call6_v0 : DevRef τ sig).ty.Contents (Elt F)) = Cert.ReferenceIdeal.Step.b6 j s := by
  unfold Cert.ReferenceIdeal.Step.b6
  rw [h.f_3, h.n_11]
  try rfl
set_option maxRecDepth 8192 in
theorem al_7 (h : Holds V0 s j) : (res_main_while0b_v69 V0 : (Proc.devRef .tc main_while0b_v69 : DevRef τ sig).ty.Contents (Elt F)) = Cert.ReferenceIdeal.Step.b7 j s := by
  unfold res_main_while0b_v69 Cert.ReferenceIdeal.Step.b7
  rw [← al_6 h]
  try rfl
set_option maxRecDepth 8192 in
theorem al_8 (h : Holds V0 s j) : (Host.dynamicSlice S1 (V0 (Proc.devRef .tc main_v64_4)) (fun k => (((![V0 (Proc.devRef .tc main_v64_11)] : Fin 1 → (⟨S_, .i32⟩ : BufTy).Contents (Elt F))) k (Shape.Idx.first h_S_)).toInt) sliceFits_S2048_S1 : (Proc.devRef .tc main_while0b_call7_v0 : DevRef τ sig).ty.Contents (Elt F)) = Cert.ReferenceIdeal.Step.b8 j s := by
  unfold Cert.ReferenceIdeal.Step.b8
  rw [h.f_4, h.n_11]
  try rfl
set_option maxRecDepth 8192 in
theorem al_9 (h : Holds V0 s j) : (res_main_while0b_v70 V0 : (Proc.devRef .tc main_while0b_v70 : DevRef τ sig).ty.Contents (Elt F)) = Cert.ReferenceIdeal.Step.b9 j s := by
  unfold res_main_while0b_v70 Cert.ReferenceIdeal.Step.b9
  rw [← al_8 h]
  try rfl
set_option maxRecDepth 8192 in
theorem al_10 (h : Holds V0 s j) : (Host.dynamicSlice S1 (V0 (Proc.devRef .tc main_v64_5)) (fun k => (((![V0 (Proc.devRef .tc main_v64_11)] : Fin 1 → (⟨S_, .i32⟩ : BufTy).Contents (Elt F))) k (Shape.Idx.first h_S_)).toInt) sliceFits_S2048_S1 : (Proc.devRef .tc main_while0b_call8_v0 : DevRef τ sig).ty.Contents (Elt F)) = Cert.ReferenceIdeal.Step.b10 j s := by
  unfold Cert.ReferenceIdeal.Step.b10
  rw [h.f_5, h.n_11]
  try rfl
set_option maxRecDepth 8192 in
theorem al_11 (h : Holds V0 s j) : (res_main_while0b_v71 V0 : (Proc.devRef .tc main_while0b_v71 : DevRef τ sig).ty.Contents (Elt F)) = Cert.ReferenceIdeal.Step.b11 j s := by
  unfold res_main_while0b_v71 Cert.ReferenceIdeal.Step.b11
  rw [← al_10 h]
  try rfl
set_option maxRecDepth 8192 in
theorem al_12 (h : Holds V0 s j) : (Host.dynamicSlice S1 (V0 (Proc.devRef .tc main_v64_6)) (fun k => (((![V0 (Proc.devRef .tc main_v64_11)] : Fin 1 → (⟨S_, .i32⟩ : BufTy).Contents (Elt F))) k (Shape.Idx.first h_S_)).toInt) sliceFits_S2048_S1 : (Proc.devRef .tc main_while0b_call9_v0 : DevRef τ sig).ty.Contents (Elt F)) = Cert.ReferenceIdeal.Step.b12 j s := by
  unfold Cert.ReferenceIdeal.Step.b12
  rw [h.f_6, h.n_11]
  try rfl
set_option maxRecDepth 8192 in
theorem al_13 (h : Holds V0 s j) : (shapeCast S_ (Host.dynamicSlice S1 (V0 (Proc.devRef .tc main_v64_6)) (fun k => (((![V0 (Proc.devRef .tc main_v64_11)] : Fin 1 → (⟨S_, .i32⟩ : BufTy).Contents (Elt F))) k (Shape.Idx.first h_S_)).toInt) sliceFits_S2048_S1) shapeCasts_S1_S_ : (Proc.devRef .tc main_while0b_v72 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call10_c : DevRef τ sig).ty.Contents (Elt F)) = Cert.ReferenceIdeal.Step.b14 j s := by
  unfold Cert.ReferenceIdeal.Step.b14
  rfl
set_option maxRecDepth 8192 in
theorem al_15 (h : Holds V0 s j) : (Host.dynamicSlice S1x3 (V0 (Proc.devRef .tc main_v64_7)) (fun k => (((![V0 (Proc.devRef .tc main_v64_11), constantI S_ 32 0#32] : Fin 2 → (⟨S_, .i32⟩ : BufTy).Contents (Elt F))) k (Shape.Idx.first h_S_)).toInt) sliceFits_S2048x3_S1x3 : (Proc.devRef .tc main_while0b_call10_v0 : DevRef τ sig).ty.Contents (Elt F)) = Cert.ReferenceIdeal.Step.b15 j s := by
  unfold Cert.ReferenceIdeal.Step.b15
  rw [← al_14 h, h.f_7, h.n_11]
  try rfl
set_option maxRecDepth 8192 in
theorem al_16 (h : Holds V0 s j) : (shapeCast S3 (Host.dynamicSlice S1x3 (V0 (Proc.devRef .tc main_v64_7)) (fun k => (((![V0 (Proc.devRef .tc main_v64_11), constantI S_ 32 0#32] : Fin 2 → (⟨S_, .i32⟩ : BufTy).Contents (Elt F))) k (Shape.Idx.first h_S_)).toInt) sliceFits_S2048x3_S1x3) shapeCasts_S1x3_S3 : (Proc.devRef .tc main_while0b_v73 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (Host.dynamicSlice S1 (V0 (Proc.devRef .tc main_v64_8)) (fun k => (((![V0 (Proc.devRef .tc main_v64_11)] : Fin 1 → (⟨S_, .i32⟩ : BufTy).Contents (Elt F))) k (Shape.Idx.first h_S_)).toInt) sliceFits_S2048_S1 : (Proc.devRef .tc main_while0b_call11_v0 : DevRef τ sig).ty.Contents (Elt F)) = Cert.ReferenceIdeal.Step.b17 j s := by
  unfold Cert.ReferenceIdeal.Step.b17
  rw [h.f_8, h.n_11]
  try rfl
set_option maxRecDepth 8192 in
theorem al_18 (h : Holds V0 s j) : (shapeCast S_ (Host.dynamicSlice S1 (V0 (Proc.devRef .tc main_v64_8)) (fun k => (((![V0 (Proc.devRef .tc main_v64_11)] : Fin 1 → (⟨S_, .i32⟩ : BufTy).Contents (Elt F))) k (Shape.Idx.first h_S_)).toInt) sliceFits_S2048_S1) shapeCasts_S1_S_ : (Proc.devRef .tc main_while0b_v74 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (broadcastInDim S121x121 ![] bcast_S_S121x121 (res_main_while0b_v68 V0) : (Proc.devRef .tc main_while0b_v75 : DevRef τ sig).ty.Contents (Elt F)) = Cert.ReferenceIdeal.Step.b19 j s := by
  unfold Cert.ReferenceIdeal.Step.b19
  rw [← al_5 h]
  try rfl
set_option maxRecDepth 8192 in
theorem al_20 (h : Holds V0 s j) : (res_main_while0b_v76 V0 : (Proc.devRef .tc main_while0b_v76 : DevRef τ sig).ty.Contents (Elt F)) = Cert.ReferenceIdeal.Step.b20 j s := by
  unfold res_main_while0b_v76 Cert.ReferenceIdeal.Step.b20
  rw [← al_19 h, h.k_9]
  try rfl
set_option maxRecDepth 8192 in
theorem al_21 (h : Holds V0 s j) : (broadcastInDim S121x121 ![] bcast_S_S121x121 (res_main_while0b_v69 V0) : (Proc.devRef .tc main_while0b_v77 : DevRef τ sig).ty.Contents (Elt F)) = Cert.ReferenceIdeal.Step.b21 j s := by
  unfold Cert.ReferenceIdeal.Step.b21
  rw [← al_7 h]
  try rfl
set_option maxRecDepth 8192 in
theorem al_22 (h : Holds V0 s j) : (res_main_while0b_v78 V0 : (Proc.devRef .tc main_while0b_v78 : DevRef τ sig).ty.Contents (Elt F)) = Cert.ReferenceIdeal.Step.b22 j s := by
  unfold res_main_while0b_v78 Cert.ReferenceIdeal.Step.b22
  rw [← al_21 h, h.k_10]
  try rfl
set_option maxRecDepth 8192 in
theorem al_23 (h : Holds V0 s j) : (constantI S_ 32 0#32 : (Proc.devRef .tc main_while0b_c_33 : DevRef τ sig).ty.Contents (Elt F)) = Cert.ReferenceIdeal.Step.b23 j s := by
  unfold Cert.ReferenceIdeal.Step.b23
  rfl
set_option maxRecDepth 8192 in
theorem al_24 (h : Holds V0 s j) : (broadcastInDim S121x121 ![] bcast_S_S121x121 (constantI S_ 32 0#32) : (Proc.devRef .tc main_while0b_v79 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (cmpi .sge (res_main_while0b_v76 V0) (broadcastInDim S121x121 ![] bcast_S_S121x121 (constantI S_ 32 0#32)) : (Proc.devRef .tc main_while0b_v80 : DevRef τ sig).ty.Contents (Elt F)) = Cert.ReferenceIdeal.Step.b25 j s := by
  unfold Cert.ReferenceIdeal.Step.b25
  rw [← al_20 h, ← al_24 h]
  try rfl
set_option maxRecDepth 8192 in
theorem al_26 (h : Holds V0 s j) : (constantI S_ 32 640#32 : (Proc.devRef .tc main_while0b_c_34 : DevRef τ sig).ty.Contents (Elt F)) = Cert.ReferenceIdeal.Step.b26 j s := by
  unfold Cert.ReferenceIdeal.Step.b26
  rfl
set_option maxRecDepth 8192 in
theorem al_27 (h : Holds V0 s j) : (broadcastInDim S121x121 ![] bcast_S_S121x121 (constantI S_ 32 640#32) : (Proc.devRef .tc main_while0b_v81 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (cmpi .slt (res_main_while0b_v76 V0) (broadcastInDim S121x121 ![] bcast_S_S121x121 (constantI S_ 32 640#32)) : (Proc.devRef .tc main_while0b_v82 : DevRef τ sig).ty.Contents (Elt F)) = Cert.ReferenceIdeal.Step.b28 j s := by
  unfold Cert.ReferenceIdeal.Step.b28
  rw [← al_20 h, ← al_27 h]
  try rfl
set_option maxRecDepth 8192 in
theorem al_29 (h : Holds V0 s j) : (andi (cmpi .sge (res_main_while0b_v76 V0) (broadcastInDim S121x121 ![] bcast_S_S121x121 (constantI S_ 32 0#32))) (cmpi .slt (res_main_while0b_v76 V0) (broadcastInDim S121x121 ![] bcast_S_S121x121 (constantI S_ 32 640#32))) : (Proc.devRef .tc main_while0b_v83 : DevRef τ sig).ty.Contents (Elt F)) = Cert.ReferenceIdeal.Step.b29 j s := by
  unfold Cert.ReferenceIdeal.Step.b29
  rw [← al_25 h, ← al_28 h]
  try rfl
set_option maxRecDepth 8192 in
theorem al_30 (h : Holds V0 s j) : (constantI S_ 32 0#32 : (Proc.devRef .tc main_while0b_c_35 : DevRef τ sig).ty.Contents (Elt F)) = Cert.ReferenceIdeal.Step.b30 j s := by
  unfold Cert.ReferenceIdeal.Step.b30
  rfl
set_option maxRecDepth 8192 in
theorem al_31 (h : Holds V0 s j) : (broadcastInDim S121x121 ![] bcast_S_S121x121 (constantI S_ 32 0#32) : (Proc.devRef .tc main_while0b_v84 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (cmpi .sge (res_main_while0b_v78 V0) (broadcastInDim S121x121 ![] bcast_S_S121x121 (constantI S_ 32 0#32)) : (Proc.devRef .tc main_while0b_v85 : DevRef τ sig).ty.Contents (Elt F)) = Cert.ReferenceIdeal.Step.b32 j s := by
  unfold Cert.ReferenceIdeal.Step.b32
  rw [← al_22 h, ← al_31 h]
  try rfl
set_option maxRecDepth 8192 in
theorem al_33 (h : Holds V0 s j) : (andi (andi (cmpi .sge (res_main_while0b_v76 V0) (broadcastInDim S121x121 ![] bcast_S_S121x121 (constantI S_ 32 0#32))) (cmpi .slt (res_main_while0b_v76 V0) (broadcastInDim S121x121 ![] bcast_S_S121x121 (constantI S_ 32 640#32)))) (cmpi .sge (res_main_while0b_v78 V0) (broadcastInDim S121x121 ![] bcast_S_S121x121 (constantI S_ 32 0#32))) : (Proc.devRef .tc main_while0b_v86 : DevRef τ sig).ty.Contents (Elt F)) = Cert.ReferenceIdeal.Step.b33 j s := by
  unfold Cert.ReferenceIdeal.Step.b33
  rw [← al_29 h, ← al_32 h]
  try rfl
set_option maxRecDepth 8192 in
theorem al_34 (h : Holds V0 s j) : (constantI S_ 32 480#32 : (Proc.devRef .tc main_while0b_c_36 : DevRef τ sig).ty.Contents (Elt F)) = Cert.ReferenceIdeal.Step.b34 j s := by
  unfold Cert.ReferenceIdeal.Step.b34
  rfl
set_option maxRecDepth 8192 in
theorem al_35 (h : Holds V0 s j) : (broadcastInDim S121x121 ![] bcast_S_S121x121 (constantI S_ 32 480#32) : (Proc.devRef .tc main_while0b_v87 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (cmpi .slt (res_main_while0b_v78 V0) (broadcastInDim S121x121 ![] bcast_S_S121x121 (constantI S_ 32 480#32)) : (Proc.devRef .tc main_while0b_v88 : DevRef τ sig).ty.Contents (Elt F)) = Cert.ReferenceIdeal.Step.b36 j s := by
  unfold Cert.ReferenceIdeal.Step.b36
  rw [← al_22 h, ← al_35 h]
  try rfl
set_option maxRecDepth 8192 in
theorem al_37 (h : Holds V0 s j) : (andi (andi (andi (cmpi .sge (res_main_while0b_v76 V0) (broadcastInDim S121x121 ![] bcast_S_S121x121 (constantI S_ 32 0#32))) (cmpi .slt (res_main_while0b_v76 V0) (broadcastInDim S121x121 ![] bcast_S_S121x121 (constantI S_ 32 640#32)))) (cmpi .sge (res_main_while0b_v78 V0) (broadcastInDim S121x121 ![] bcast_S_S121x121 (constantI S_ 32 0#32)))) (cmpi .slt (res_main_while0b_v78 V0) (broadcastInDim S121x121 ![] bcast_S_S121x121 (constantI S_ 32 480#32))) : (Proc.devRef .tc main_while0b_v89 : DevRef τ sig).ty.Contents (Elt F)) = Cert.ReferenceIdeal.Step.b37 j s := by
  unfold Cert.ReferenceIdeal.Step.b37
  rw [← al_33 h, ← al_36 h]
  try rfl
set_option maxRecDepth 8192 in
theorem al_38 (h : Holds V0 s j) : (absi (V0 (Proc.devRef .tc main_v64_9)) : (Proc.devRef .tc main_while0b_v90 : DevRef τ sig).ty.Contents (Elt F)) = Cert.ReferenceIdeal.Step.b38 j s := by
  unfold Cert.ReferenceIdeal.Step.b38
  rw [h.k_9]
  try rfl
set_option maxRecDepth 8192 in
theorem al_39 (h : Holds V0 s j) : (broadcastInDim S121x121 ![] bcast_S_S121x121 (res_main_while0b_v70 V0) : (Proc.devRef .tc main_while0b_v91 : DevRef τ sig).ty.Contents (Elt F)) = Cert.ReferenceIdeal.Step.b39 j s := by
  unfold Cert.ReferenceIdeal.Step.b39
  rw [← al_9 h]
  try rfl
set_option maxRecDepth 8192 in
theorem al_40 (h : Holds V0 s j) : (cmpi .sle (absi (V0 (Proc.devRef .tc main_v64_9))) (broadcastInDim S121x121 ![] bcast_S_S121x121 (res_main_while0b_v70 V0)) : (Proc.devRef .tc main_while0b_v92 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (absi (V0 (Proc.devRef .tc main_v64_10)) : (Proc.devRef .tc main_while0b_v93 : DevRef τ sig).ty.Contents (Elt F)) = Cert.ReferenceIdeal.Step.b41 j s := by
  unfold Cert.ReferenceIdeal.Step.b41
  rw [h.k_10]
  try rfl
set_option maxRecDepth 8192 in
theorem al_42 (h : Holds V0 s j) : (broadcastInDim S121x121 ![] bcast_S_S121x121 (res_main_while0b_v70 V0) : (Proc.devRef .tc main_while0b_v94 : DevRef τ sig).ty.Contents (Elt F)) = Cert.ReferenceIdeal.Step.b42 j s := by
  unfold Cert.ReferenceIdeal.Step.b42
  rw [← al_9 h]
  try rfl
set_option maxRecDepth 8192 in
theorem al_43 (h : Holds V0 s j) : (cmpi .sle (absi (V0 (Proc.devRef .tc main_v64_10))) (broadcastInDim S121x121 ![] bcast_S_S121x121 (res_main_while0b_v70 V0)) : (Proc.devRef .tc main_while0b_v95 : DevRef τ sig).ty.Contents (Elt F)) = Cert.ReferenceIdeal.Step.b43 j s := by
  unfold Cert.ReferenceIdeal.Step.b43
  rw [← al_41 h, ← al_42 h]
  try rfl
set_option maxRecDepth 8192 in
theorem al_44 (h : Holds V0 s j) : (andi (cmpi .sle (absi (V0 (Proc.devRef .tc main_v64_9))) (broadcastInDim S121x121 ![] bcast_S_S121x121 (res_main_while0b_v70 V0))) (cmpi .sle (absi (V0 (Proc.devRef .tc main_v64_10))) (broadcastInDim S121x121 ![] bcast_S_S121x121 (res_main_while0b_v70 V0))) : (Proc.devRef .tc main_while0b_v96 : DevRef τ sig).ty.Contents (Elt F)) = Cert.ReferenceIdeal.Step.b44 j s := by
  unfold Cert.ReferenceIdeal.Step.b44
  rw [← al_40 h, ← al_43 h]
  try rfl
set_option maxRecDepth 8192 in
theorem al_45 (h : Holds V0 s j) : (andi (andi (andi (andi (cmpi .sge (res_main_while0b_v76 V0) (broadcastInDim S121x121 ![] bcast_S_S121x121 (constantI S_ 32 0#32))) (cmpi .slt (res_main_while0b_v76 V0) (broadcastInDim S121x121 ![] bcast_S_S121x121 (constantI S_ 32 640#32)))) (cmpi .sge (res_main_while0b_v78 V0) (broadcastInDim S121x121 ![] bcast_S_S121x121 (constantI S_ 32 0#32)))) (cmpi .slt (res_main_while0b_v78 V0) (broadcastInDim S121x121 ![] bcast_S_S121x121 (constantI S_ 32 480#32)))) (andi (cmpi .sle (absi (V0 (Proc.devRef .tc main_v64_9))) (broadcastInDim S121x121 ![] bcast_S_S121x121 (res_main_while0b_v70 V0))) (cmpi .sle (absi (V0 (Proc.devRef .tc main_v64_10))) (broadcastInDim S121x121 ![] bcast_S_S121x121 (res_main_while0b_v70 V0)))) : (Proc.devRef .tc main_while0b_v97 : DevRef τ sig).ty.Contents (Elt F)) = Cert.ReferenceIdeal.Step.b45 j s := by
  unfold Cert.ReferenceIdeal.Step.b45
  rw [← al_37 h, ← al_44 h]
  try rfl
set_option maxRecDepth 8192 in
theorem al_46 (h : Holds V0 s j) : (broadcastInDim S121x121 ![] bcast_S_S121x121 (shapeCast S_ (Host.dynamicSlice S1 (V0 (Proc.devRef .tc main_v64_8)) (fun k => (((![V0 (Proc.devRef .tc main_v64_11)] : Fin 1 → (⟨S_, .i32⟩ : BufTy).Contents (Elt F))) k (Shape.Idx.first h_S_)).toInt) sliceFits_S2048_S1) shapeCasts_S1_S_) : (Proc.devRef .tc main_while0b_v98 : DevRef τ sig).ty.Contents (Elt F)) = Cert.ReferenceIdeal.Step.b46 j s := by
  unfold Cert.ReferenceIdeal.Step.b46
  rw [← al_18 h]
  try rfl
set_option maxRecDepth 8192 in
theorem al_47 (h : Holds V0 s j) : (andi (andi (andi (andi (andi (cmpi .sge (res_main_while0b_v76 V0) (broadcastInDim S121x121 ![] bcast_S_S121x121 (constantI S_ 32 0#32))) (cmpi .slt (res_main_while0b_v76 V0) (broadcastInDim S121x121 ![] bcast_S_S121x121 (constantI S_ 32 640#32)))) (cmpi .sge (res_main_while0b_v78 V0) (broadcastInDim S121x121 ![] bcast_S_S121x121 (constantI S_ 32 0#32)))) (cmpi .slt (res_main_while0b_v78 V0) (broadcastInDim S121x121 ![] bcast_S_S121x121 (constantI S_ 32 480#32)))) (andi (cmpi .sle (absi (V0 (Proc.devRef .tc main_v64_9))) (broadcastInDim S121x121 ![] bcast_S_S121x121 (res_main_while0b_v70 V0))) (cmpi .sle (absi (V0 (Proc.devRef .tc main_v64_10))) (broadcastInDim S121x121 ![] bcast_S_S121x121 (res_main_while0b_v70 V0))))) (broadcastInDim S121x121 ![] bcast_S_S121x121 (shapeCast S_ (Host.dynamicSlice S1 (V0 (Proc.devRef .tc main_v64_8)) (fun k => (((![V0 (Proc.devRef .tc main_v64_11)] : Fin 1 → (⟨S_, .i32⟩ : BufTy).Contents (Elt F))) k (Shape.Idx.first h_S_)).toInt) sliceFits_S2048_S1) shapeCasts_S1_S_)) : (Proc.devRef .tc main_while0b_v99 : DevRef τ sig).ty.Contents (Elt F)) = Cert.ReferenceIdeal.Step.b47 j s := by
  unfold Cert.ReferenceIdeal.Step.b47
  rw [← al_45 h, ← al_46 h]
  try rfl
set_option maxRecDepth 8192 in
theorem al_48 (h : Holds V0 s j) : (uitofp .f32 (andi (andi (andi (andi (andi (cmpi .sge (res_main_while0b_v76 V0) (broadcastInDim S121x121 ![] bcast_S_S121x121 (constantI S_ 32 0#32))) (cmpi .slt (res_main_while0b_v76 V0) (broadcastInDim S121x121 ![] bcast_S_S121x121 (constantI S_ 32 640#32)))) (cmpi .sge (res_main_while0b_v78 V0) (broadcastInDim S121x121 ![] bcast_S_S121x121 (constantI S_ 32 0#32)))) (cmpi .slt (res_main_while0b_v78 V0) (broadcastInDim S121x121 ![] bcast_S_S121x121 (constantI S_ 32 480#32)))) (andi (cmpi .sle (absi (V0 (Proc.devRef .tc main_v64_9))) (broadcastInDim S121x121 ![] bcast_S_S121x121 (res_main_while0b_v70 V0))) (cmpi .sle (absi (V0 (Proc.devRef .tc main_v64_10))) (broadcastInDim S121x121 ![] bcast_S_S121x121 (res_main_while0b_v70 V0))))) (broadcastInDim S121x121 ![] bcast_S_S121x121 (shapeCast S_ (Host.dynamicSlice S1 (V0 (Proc.devRef .tc main_v64_8)) (fun k => (((![V0 (Proc.devRef .tc main_v64_11)] : Fin 1 → (⟨S_, .i32⟩ : BufTy).Contents (Elt F))) k (Shape.Idx.first h_S_)).toInt) sliceFits_S2048_S1) shapeCasts_S1_S_))) : (Proc.devRef .tc main_while0b_v100 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (sitofp .f32 (res_main_while0b_v76 V0) : (Proc.devRef .tc main_while0b_v101 : DevRef τ sig).ty.Contents (Elt F)) = Cert.ReferenceIdeal.Step.b49 j s := by
  unfold Cert.ReferenceIdeal.Step.b49
  rw [← al_20 h]
  try rfl
set_option maxRecDepth 8192 in
theorem al_50 (h : Holds V0 s j) : (broadcastInDim S121x121 ![] bcast_S_S121x121 (shapeCast S_ (Host.dynamicSlice S1 (V0 (Proc.devRef .tc main_v64_0)) (fun k => (((![V0 (Proc.devRef .tc main_v64_11)] : Fin 1 → (⟨S_, .i32⟩ : BufTy).Contents (Elt F))) k (Shape.Idx.first h_S_)).toInt) sliceFits_S2048_S1) shapeCasts_S1_S_) : (Proc.devRef .tc main_while0b_v102 : DevRef τ sig).ty.Contents (Elt F)) = Cert.ReferenceIdeal.Step.b50 j s := by
  unfold Cert.ReferenceIdeal.Step.b50
  rw [← al_1 h]
  try rfl
set_option maxRecDepth 8192 in
theorem al_51 (h : Holds V0 s j) : (res_main_while0b_v103 V0 : (Proc.devRef .tc main_while0b_v103 : DevRef τ sig).ty.Contents (Elt F)) = Cert.ReferenceIdeal.Step.b51 j s := by
  unfold res_main_while0b_v103 Cert.ReferenceIdeal.Step.b51
  rw [← al_49 h, ← al_50 h]
  try rfl
set_option maxRecDepth 8192 in
theorem al_52 (h : Holds V0 s j) : (mulf (res_main_while0b_v103 V0) (res_main_while0b_v103 V0) : (Proc.devRef .tc main_while0b_v104 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (sitofp .f32 (res_main_while0b_v78 V0) : (Proc.devRef .tc main_while0b_v105 : DevRef τ sig).ty.Contents (Elt F)) = Cert.ReferenceIdeal.Step.b53 j s := by
  unfold Cert.ReferenceIdeal.Step.b53
  rw [← al_22 h]
  try rfl
set_option maxRecDepth 8192 in
theorem al_54 (h : Holds V0 s j) : (broadcastInDim S121x121 ![] bcast_S_S121x121 (shapeCast S_ (Host.dynamicSlice S1 (V0 (Proc.devRef .tc main_v64_1)) (fun k => (((![V0 (Proc.devRef .tc main_v64_11)] : Fin 1 → (⟨S_, .i32⟩ : BufTy).Contents (Elt F))) k (Shape.Idx.first h_S_)).toInt) sliceFits_S2048_S1) shapeCasts_S1_S_) : (Proc.devRef .tc main_while0b_v106 : DevRef τ sig).ty.Contents (Elt F)) = Cert.ReferenceIdeal.Step.b54 j s := by
  unfold Cert.ReferenceIdeal.Step.b54
  rw [← al_3 h]
  try rfl
set_option maxRecDepth 8192 in
theorem al_55 (h : Holds V0 s j) : (res_main_while0b_v107 V0 : (Proc.devRef .tc main_while0b_v107 : DevRef τ sig).ty.Contents (Elt F)) = Cert.ReferenceIdeal.Step.b55 j s := by
  unfold res_main_while0b_v107 Cert.ReferenceIdeal.Step.b55
  rw [← al_53 h, ← al_54 h]
  try rfl
set_option maxRecDepth 8192 in
theorem al_56 (h : Holds V0 s j) : (mulf (res_main_while0b_v107 V0) (res_main_while0b_v107 V0) : (Proc.devRef .tc main_while0b_v108 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (addf (mulf (res_main_while0b_v103 V0) (res_main_while0b_v103 V0)) (mulf (res_main_while0b_v107 V0) (res_main_while0b_v107 V0)) : (Proc.devRef .tc main_while0b_v109 : DevRef τ sig).ty.Contents (Elt F)) = Cert.ReferenceIdeal.Step.b57 j s := by
  unfold Cert.ReferenceIdeal.Step.b57
  rw [← al_52 h, ← al_56 h]
  try rfl
set_option maxRecDepth 8192 in
theorem al_58 (h : Holds V0 s j) : (constant S_ .f32 0xBF000000#32 : (Proc.devRef .tc main_while0b_cst_37 : DevRef τ sig).ty.Contents (Elt F)) = Cert.ReferenceIdeal.Step.b58 j s := by
  unfold Cert.ReferenceIdeal.Step.b58
  rfl
set_option maxRecDepth 8192 in
theorem al_59 (h : Holds V0 s j) : (broadcastInDim S121x121 ![] bcast_S_S121x121 (constant S_ .f32 0xBF000000#32) : (Proc.devRef .tc main_while0b_v110 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (mulf (broadcastInDim S121x121 ![] bcast_S_S121x121 (constant S_ .f32 0xBF000000#32)) (addf (mulf (res_main_while0b_v103 V0) (res_main_while0b_v103 V0)) (mulf (res_main_while0b_v107 V0) (res_main_while0b_v107 V0))) : (Proc.devRef .tc main_while0b_v111 : DevRef τ sig).ty.Contents (Elt F)) = Cert.ReferenceIdeal.Step.b60 j s := by
  unfold Cert.ReferenceIdeal.Step.b60
  rw [← al_59 h, ← al_57 h]
  try rfl
set_option maxRecDepth 8192 in
theorem al_61 (h : Holds V0 s j) : (mulf (res_main_while0b_v71 V0) (res_main_while0b_v71 V0) : (Proc.devRef .tc main_while0b_v112 : DevRef τ sig).ty.Contents (Elt F)) = Cert.ReferenceIdeal.Step.b61 j s := by
  unfold Cert.ReferenceIdeal.Step.b61
  rw [← al_11 h]
  try rfl
set_option maxRecDepth 8192 in
theorem al_62 (h : Holds V0 s j) : (broadcastInDim S121x121 ![] bcast_S_S121x121 (mulf (res_main_while0b_v71 V0) (res_main_while0b_v71 V0)) : (Proc.devRef .tc main_while0b_v113 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (Host.divf (mulf (broadcastInDim S121x121 ![] bcast_S_S121x121 (constant S_ .f32 0xBF000000#32)) (addf (mulf (res_main_while0b_v103 V0) (res_main_while0b_v103 V0)) (mulf (res_main_while0b_v107 V0) (res_main_while0b_v107 V0)))) (broadcastInDim S121x121 ![] bcast_S_S121x121 (mulf (res_main_while0b_v71 V0) (res_main_while0b_v71 V0))) : (Proc.devRef .tc main_while0b_v114 : DevRef τ sig).ty.Contents (Elt F)) = Cert.ReferenceIdeal.Step.b63 j s := by
  unfold Cert.ReferenceIdeal.Step.b63
  rw [← al_60 h, ← al_62 h]
  try rfl
set_option maxRecDepth 8192 in
theorem al_64 (h : Holds V0 s j) : (Host.exp (Host.divf (mulf (broadcastInDim S121x121 ![] bcast_S_S121x121 (constant S_ .f32 0xBF000000#32)) (addf (mulf (res_main_while0b_v103 V0) (res_main_while0b_v103 V0)) (mulf (res_main_while0b_v107 V0) (res_main_while0b_v107 V0)))) (broadcastInDim S121x121 ![] bcast_S_S121x121 (mulf (res_main_while0b_v71 V0) (res_main_while0b_v71 V0)))) : (Proc.devRef .tc main_while0b_v115 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (broadcastInDim S121x121 ![] bcast_S_S121x121 (shapeCast S_ (Host.dynamicSlice S1 (V0 (Proc.devRef .tc main_v64_6)) (fun k => (((![V0 (Proc.devRef .tc main_v64_11)] : Fin 1 → (⟨S_, .i32⟩ : BufTy).Contents (Elt F))) k (Shape.Idx.first h_S_)).toInt) sliceFits_S2048_S1) shapeCasts_S1_S_) : (Proc.devRef .tc main_while0b_v116 : DevRef τ sig).ty.Contents (Elt F)) = Cert.ReferenceIdeal.Step.b65 j s := by
  unfold Cert.ReferenceIdeal.Step.b65
  rw [← al_13 h]
  try rfl
set_option maxRecDepth 8192 in
theorem al_66 (h : Holds V0 s j) : (mulf (broadcastInDim S121x121 ![] bcast_S_S121x121 (shapeCast S_ (Host.dynamicSlice S1 (V0 (Proc.devRef .tc main_v64_6)) (fun k => (((![V0 (Proc.devRef .tc main_v64_11)] : Fin 1 → (⟨S_, .i32⟩ : BufTy).Contents (Elt F))) k (Shape.Idx.first h_S_)).toInt) sliceFits_S2048_S1) shapeCasts_S1_S_)) (Host.exp (Host.divf (mulf (broadcastInDim S121x121 ![] bcast_S_S121x121 (constant S_ .f32 0xBF000000#32)) (addf (mulf (res_main_while0b_v103 V0) (res_main_while0b_v103 V0)) (mulf (res_main_while0b_v107 V0) (res_main_while0b_v107 V0)))) (broadcastInDim S121x121 ![] bcast_S_S121x121 (mulf (res_main_while0b_v71 V0) (res_main_while0b_v71 V0))))) : (Proc.devRef .tc main_while0b_v117 : DevRef τ sig).ty.Contents (Elt F)) = Cert.ReferenceIdeal.Step.b66 j s := by
  unfold Cert.ReferenceIdeal.Step.b66
  rw [← al_65 h, ← al_64 h]
  try rfl
set_option maxRecDepth 8192 in
theorem al_67 (h : Holds V0 s j) : (res_main_while0b_v118 V0 : (Proc.devRef .tc main_while0b_v118 : DevRef τ sig).ty.Contents (Elt F)) = Cert.ReferenceIdeal.Step.b67 j s := by
  unfold res_main_while0b_v118 Cert.ReferenceIdeal.Step.b67
  rw [← al_66 h, ← al_48 h]
  try rfl
set_option maxRecDepth 8192 in
theorem al_68 (h : Holds V0 s j) : (constantI S_ 32 0#32 : (Proc.devRef .tc main_while0b_c_38 : DevRef τ sig).ty.Contents (Elt F)) = Cert.ReferenceIdeal.Step.b68 j s := by
  unfold Cert.ReferenceIdeal.Step.b68
  rfl
set_option maxRecDepth 8192 in
theorem al_69 (h : Holds V0 s j) : (constantI S_ 32 0#32 : (Proc.devRef .tc main_while0b_c_39 : DevRef τ sig).ty.Contents (Elt F)) = Cert.ReferenceIdeal.Step.b69 j s := by
  unfold Cert.ReferenceIdeal.Step.b69
  rfl
set_option maxRecDepth 8192 in
theorem al_70 (h : Holds V0 s j) : (cmpi .slt (constantI S_ 32 0#32) (constantI S_ 32 0#32) : (Proc.devRef .tc main_while0b_v119 : DevRef τ sig).ty.Contents (Elt F)) = Cert.ReferenceIdeal.Step.b70 j s := by
  unfold Cert.ReferenceIdeal.Step.b70
  rw [← al_68 h, ← al_69 h]
  try rfl
set_option maxRecDepth 8192 in
theorem al_71 (h : Holds V0 s j) : (constantI S_ 32 0#32 : (Proc.devRef .tc main_while0b_c_40 : DevRef τ sig).ty.Contents (Elt F)) = Cert.ReferenceIdeal.Step.b71 j s := by
  unfold Cert.ReferenceIdeal.Step.b71
  rfl
set_option maxRecDepth 8192 in
theorem al_72 (h : Holds V0 s j) : (constantI S_ 32 3#32 : (Proc.devRef .tc main_while0b_c_41 : DevRef τ sig).ty.Contents (Elt F)) = Cert.ReferenceIdeal.Step.b72 j s := by
  unfold Cert.ReferenceIdeal.Step.b72
  rfl
set_option maxRecDepth 8192 in
theorem al_73 (h : Holds V0 s j) : (addi (constantI S_ 32 0#32) (constantI S_ 32 3#32) : (Proc.devRef .tc main_while0b_v120 : DevRef τ sig).ty.Contents (Elt F)) = Cert.ReferenceIdeal.Step.b73 j s := by
  unfold Cert.ReferenceIdeal.Step.b73
  rw [← al_71 h, ← al_72 h]
  try rfl
set_option maxRecDepth 8192 in
theorem al_74 (h : Holds V0 s j) : (constantI S_ 32 0#32 : (Proc.devRef .tc main_while0b_c_42 : DevRef τ sig).ty.Contents (Elt F)) = Cert.ReferenceIdeal.Step.b74 j s := by
  unfold Cert.ReferenceIdeal.Step.b74
  rfl
set_option maxRecDepth 8192 in
theorem al_75 (h : Holds V0 s j) : (select (cmpi .slt (constantI S_ 32 0#32) (constantI S_ 32 0#32)) (addi (constantI S_ 32 0#32) (constantI S_ 32 3#32)) (constantI S_ 32 0#32) : (Proc.devRef .tc main_while0b_v121 : DevRef τ sig).ty.Contents (Elt F)) = Cert.ReferenceIdeal.Step.b75 j s := by
  unfold Cert.ReferenceIdeal.Step.b75
  rw [← al_70 h, ← al_73 h, ← al_74 h]
  try rfl
set_option maxRecDepth 8192 in
theorem al_76 (h : Holds V0 s j) : (constantI S_ 32 0#32 : (Proc.devRef .tc main_while0b_c_43 : DevRef τ sig).ty.Contents (Elt F)) = Cert.ReferenceIdeal.Step.b76 j s := by
  unfold Cert.ReferenceIdeal.Step.b76
  rfl
set_option maxRecDepth 8192 in
theorem al_77 (h : Holds V0 s j) : (cmpi .slt (res_main_while0b_v69 V0) (constantI S_ 32 0#32) : (Proc.devRef .tc main_while0b_v122 : DevRef τ sig).ty.Contents (Elt F)) = Cert.ReferenceIdeal.Step.b77 j s := by
  unfold Cert.ReferenceIdeal.Step.b77
  rw [← al_7 h, ← al_76 h]
  try rfl
set_option maxRecDepth 8192 in
theorem al_78 (h : Holds V0 s j) : (constantI S_ 32 600#32 : (Proc.devRef .tc main_while0b_c_44 : DevRef τ sig).ty.Contents (Elt F)) = Cert.ReferenceIdeal.Step.b78 j s := by
  unfold Cert.ReferenceIdeal.Step.b78
  rfl
set_option maxRecDepth 8192 in
theorem al_79 (h : Holds V0 s j) : (addi (res_main_while0b_v69 V0) (constantI S_ 32 600#32) : (Proc.devRef .tc main_while0b_v123 : DevRef τ sig).ty.Contents (Elt F)) = Cert.ReferenceIdeal.Step.b79 j s := by
  unfold Cert.ReferenceIdeal.Step.b79
  rw [← al_7 h, ← al_78 h]
  try rfl
set_option maxRecDepth 8192 in
theorem al_80 (h : Holds V0 s j) : (select (cmpi .slt (res_main_while0b_v69 V0) (constantI S_ 32 0#32)) (addi (res_main_while0b_v69 V0) (constantI S_ 32 600#32)) (res_main_while0b_v69 V0) : (Proc.devRef .tc main_while0b_v124 : DevRef τ sig).ty.Contents (Elt F)) = Cert.ReferenceIdeal.Step.b80 j s := by
  unfold Cert.ReferenceIdeal.Step.b80
  rw [← al_77 h, ← al_79 h, ← al_7 h]
  try rfl
set_option maxRecDepth 8192 in
theorem al_81 (h : Holds V0 s j) : (constantI S_ 32 0#32 : (Proc.devRef .tc main_while0b_c_45 : DevRef τ sig).ty.Contents (Elt F)) = Cert.ReferenceIdeal.Step.b81 j s := by
  unfold Cert.ReferenceIdeal.Step.b81
  rfl
set_option maxRecDepth 8192 in
theorem al_82 (h : Holds V0 s j) : (cmpi .slt (res_main_while0b_v68 V0) (constantI S_ 32 0#32) : (Proc.devRef .tc main_while0b_v125 : DevRef τ sig).ty.Contents (Elt F)) = Cert.ReferenceIdeal.Step.b82 j s := by
  unfold Cert.ReferenceIdeal.Step.b82
  rw [← al_5 h, ← al_81 h]
  try rfl
set_option maxRecDepth 8192 in
theorem al_83 (h : Holds V0 s j) : (constantI S_ 32 760#32 : (Proc.devRef .tc main_while0b_c_46 : DevRef τ sig).ty.Contents (Elt F)) = Cert.ReferenceIdeal.Step.b83 j s := by
  unfold Cert.ReferenceIdeal.Step.b83
  rfl
set_option maxRecDepth 8192 in
theorem al_84 (h : Holds V0 s j) : (addi (res_main_while0b_v68 V0) (constantI S_ 32 760#32) : (Proc.devRef .tc main_while0b_v126 : DevRef τ sig).ty.Contents (Elt F)) = Cert.ReferenceIdeal.Step.b84 j s := by
  unfold Cert.ReferenceIdeal.Step.b84
  rw [← al_5 h, ← al_83 h]
  try rfl
set_option maxRecDepth 8192 in
theorem al_85 (h : Holds V0 s j) : (select (cmpi .slt (res_main_while0b_v68 V0) (constantI S_ 32 0#32)) (addi (res_main_while0b_v68 V0) (constantI S_ 32 760#32)) (res_main_while0b_v68 V0) : (Proc.devRef .tc main_while0b_v127 : DevRef τ sig).ty.Contents (Elt F)) = Cert.ReferenceIdeal.Step.b85 j s := by
  unfold Cert.ReferenceIdeal.Step.b85
  rw [← al_82 h, ← al_84 h, ← al_5 h]
  try rfl
set_option maxRecDepth 8192 in
theorem al_86 (h : Holds V0 s j) : (Host.dynamicSlice S3x121x121 (V0 (Proc.devRef .tc main_v64_12)) (fun k => (((![select (cmpi .slt (constantI S_ 32 0#32) (constantI S_ 32 0#32)) (addi (constantI S_ 32 0#32) (constantI S_ 32 3#32)) (constantI S_ 32 0#32), select (cmpi .slt (res_main_while0b_v69 V0) (constantI S_ 32 0#32)) (addi (res_main_while0b_v69 V0) (constantI S_ 32 600#32)) (res_main_while0b_v69 V0), select (cmpi .slt (res_main_while0b_v68 V0) (constantI S_ 32 0#32)) (addi (res_main_while0b_v68 V0) (constantI S_ 32 760#32)) (res_main_while0b_v68 V0)] : Fin 3 → (⟨S_, .i32⟩ : BufTy).Contents (Elt F))) k (Shape.Idx.first h_S_)).toInt) sliceFits_S3x600x760_S3x121x121 : (Proc.devRef .tc main_while0b_v128 : DevRef τ sig).ty.Contents (Elt F)) = Cert.ReferenceIdeal.Step.b86 j s := by
  unfold Cert.ReferenceIdeal.Step.b86
  rw [← al_75 h, ← al_80 h, ← al_85 h, h.f_12]
  try rfl
set_option maxRecDepth 8192 in
theorem al_87 (h : Holds V0 s j) : (constant S_ .f32 0x3F800000#32 : (Proc.devRef .tc main_while0b_cst_47 : DevRef τ sig).ty.Contents (Elt F)) = Cert.ReferenceIdeal.Step.b87 j s := by
  unfold Cert.ReferenceIdeal.Step.b87
  rfl
set_option maxRecDepth 8192 in
theorem al_88 (h : Holds V0 s j) : (broadcastInDim S121x121 ![] bcast_S_S121x121 (constant S_ .f32 0x3F800000#32) : (Proc.devRef .tc main_while0b_v129 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (subf (broadcastInDim S121x121 ![] bcast_S_S121x121 (constant S_ .f32 0x3F800000#32)) (res_main_while0b_v118 V0) : (Proc.devRef .tc main_while0b_v130 : DevRef τ sig).ty.Contents (Elt F)) = Cert.ReferenceIdeal.Step.b89 j s := by
  unfold Cert.ReferenceIdeal.Step.b89
  rw [← al_88 h, ← al_67 h]
  try rfl
set_option maxRecDepth 8192 in
theorem al_90 (h : Holds V0 s j) : (broadcastInDim S1x121x121 ![1, 2] bcast_S121x121_S1x121x121_1_2 (subf (broadcastInDim S121x121 ![] bcast_S_S121x121 (constant S_ .f32 0x3F800000#32)) (res_main_while0b_v118 V0)) : (Proc.devRef .tc main_while0b_v131 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (broadcastInDim S3x121x121 ![0, 1, 2] bcast_S1x121x121_S3x121x121_0_1_2 (broadcastInDim S1x121x121 ![1, 2] bcast_S121x121_S1x121x121_1_2 (subf (broadcastInDim S121x121 ![] bcast_S_S121x121 (constant S_ .f32 0x3F800000#32)) (res_main_while0b_v118 V0))) : (Proc.devRef .tc main_while0b_v132 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (mulf (Host.dynamicSlice S3x121x121 (V0 (Proc.devRef .tc main_v64_12)) (fun k => (((![select (cmpi .slt (constantI S_ 32 0#32) (constantI S_ 32 0#32)) (addi (constantI S_ 32 0#32) (constantI S_ 32 3#32)) (constantI S_ 32 0#32), select (cmpi .slt (res_main_while0b_v69 V0) (constantI S_ 32 0#32)) (addi (res_main_while0b_v69 V0) (constantI S_ 32 600#32)) (res_main_while0b_v69 V0), select (cmpi .slt (res_main_while0b_v68 V0) (constantI S_ 32 0#32)) (addi (res_main_while0b_v68 V0) (constantI S_ 32 760#32)) (res_main_while0b_v68 V0)] : Fin 3 → (⟨S_, .i32⟩ : BufTy).Contents (Elt F))) k (Shape.Idx.first h_S_)).toInt) sliceFits_S3x600x760_S3x121x121) (broadcastInDim S3x121x121 ![0, 1, 2] bcast_S1x121x121_S3x121x121_0_1_2 (broadcastInDim S1x121x121 ![1, 2] bcast_S121x121_S1x121x121_1_2 (subf (broadcastInDim S121x121 ![] bcast_S_S121x121 (constant S_ .f32 0x3F800000#32)) (res_main_while0b_v118 V0)))) : (Proc.devRef .tc main_while0b_v133 : DevRef τ sig).ty.Contents (Elt F)) = Cert.ReferenceIdeal.Step.b92 j s := by
  unfold Cert.ReferenceIdeal.Step.b92
  rw [← al_86 h, ← al_91 h]
  try rfl
set_option maxRecDepth 8192 in
theorem al_93 (h : Holds V0 s j) : (broadcastInDim S3x1x1 ![0] bcast_S3_S3x1x1_0 (shapeCast S3 (Host.dynamicSlice S1x3 (V0 (Proc.devRef .tc main_v64_7)) (fun k => (((![V0 (Proc.devRef .tc main_v64_11), constantI S_ 32 0#32] : Fin 2 → (⟨S_, .i32⟩ : BufTy).Contents (Elt F))) k (Shape.Idx.first h_S_)).toInt) sliceFits_S2048x3_S1x3) shapeCasts_S1x3_S3) : (Proc.devRef .tc main_while0b_v134 : DevRef τ sig).ty.Contents (Elt F)) = Cert.ReferenceIdeal.Step.b93 j s := by
  unfold Cert.ReferenceIdeal.Step.b93
  rw [← al_16 h]
  try rfl
set_option maxRecDepth 8192 in
theorem al_94 (h : Holds V0 s j) : (broadcastInDim S1x121x121 ![1, 2] bcast_S121x121_S1x121x121_1_2 (res_main_while0b_v118 V0) : (Proc.devRef .tc main_while0b_v135 : DevRef τ sig).ty.Contents (Elt F)) = Cert.ReferenceIdeal.Step.b94 j s := by
  unfold Cert.ReferenceIdeal.Step.b94
  rw [← al_67 h]
  try rfl
set_option maxRecDepth 8192 in
theorem al_95 (h : Holds V0 s j) : (broadcastInDim S3x121x121 ![0, 1, 2] bcast_S3x1x1_S3x121x121_0_1_2 (broadcastInDim S3x1x1 ![0] bcast_S3_S3x1x1_0 (shapeCast S3 (Host.dynamicSlice S1x3 (V0 (Proc.devRef .tc main_v64_7)) (fun k => (((![V0 (Proc.devRef .tc main_v64_11), constantI S_ 32 0#32] : Fin 2 → (⟨S_, .i32⟩ : BufTy).Contents (Elt F))) k (Shape.Idx.first h_S_)).toInt) sliceFits_S2048x3_S1x3) shapeCasts_S1x3_S3)) : (Proc.devRef .tc main_while0b_v136 : DevRef τ sig).ty.Contents (Elt F)) = Cert.ReferenceIdeal.Step.b95 j s := by
  unfold Cert.ReferenceIdeal.Step.b95
  rw [← al_93 h]
  try rfl
set_option maxRecDepth 8192 in
theorem al_96 (h : Holds V0 s j) : (broadcastInDim S3x121x121 ![0, 1, 2] bcast_S1x121x121_S3x121x121_0_1_2 (broadcastInDim S1x121x121 ![1, 2] bcast_S121x121_S1x121x121_1_2 (res_main_while0b_v118 V0)) : (Proc.devRef .tc main_while0b_v137 : DevRef τ sig).ty.Contents (Elt F)) = Cert.ReferenceIdeal.Step.b96 j s := by
  unfold Cert.ReferenceIdeal.Step.b96
  rw [← al_94 h]
  try rfl
set_option maxRecDepth 8192 in
theorem al_97 (h : Holds V0 s j) : (mulf (broadcastInDim S3x121x121 ![0, 1, 2] bcast_S3x1x1_S3x121x121_0_1_2 (broadcastInDim S3x1x1 ![0] bcast_S3_S3x1x1_0 (shapeCast S3 (Host.dynamicSlice S1x3 (V0 (Proc.devRef .tc main_v64_7)) (fun k => (((![V0 (Proc.devRef .tc main_v64_11), constantI S_ 32 0#32] : Fin 2 → (⟨S_, .i32⟩ : BufTy).Contents (Elt F))) k (Shape.Idx.first h_S_)).toInt) sliceFits_S2048x3_S1x3) shapeCasts_S1x3_S3))) (broadcastInDim S3x121x121 ![0, 1, 2] bcast_S1x121x121_S3x121x121_0_1_2 (broadcastInDim S1x121x121 ![1, 2] bcast_S121x121_S1x121x121_1_2 (res_main_while0b_v118 V0))) : (Proc.devRef .tc main_while0b_v138 : DevRef τ sig).ty.Contents (Elt F)) = Cert.ReferenceIdeal.Step.b97 j s := by
  unfold Cert.ReferenceIdeal.Step.b97
  rw [← al_95 h, ← al_96 h]
  try rfl
set_option maxRecDepth 8192 in
theorem al_98 (h : Holds V0 s j) : (addf (mulf (Host.dynamicSlice S3x121x121 (V0 (Proc.devRef .tc main_v64_12)) (fun k => (((![select (cmpi .slt (constantI S_ 32 0#32) (constantI S_ 32 0#32)) (addi (constantI S_ 32 0#32) (constantI S_ 32 3#32)) (constantI S_ 32 0#32), select (cmpi .slt (res_main_while0b_v69 V0) (constantI S_ 32 0#32)) (addi (res_main_while0b_v69 V0) (constantI S_ 32 600#32)) (res_main_while0b_v69 V0), select (cmpi .slt (res_main_while0b_v68 V0) (constantI S_ 32 0#32)) (addi (res_main_while0b_v68 V0) (constantI S_ 32 760#32)) (res_main_while0b_v68 V0)] : Fin 3 → (⟨S_, .i32⟩ : BufTy).Contents (Elt F))) k (Shape.Idx.first h_S_)).toInt) sliceFits_S3x600x760_S3x121x121) (broadcastInDim S3x121x121 ![0, 1, 2] bcast_S1x121x121_S3x121x121_0_1_2 (broadcastInDim S1x121x121 ![1, 2] bcast_S121x121_S1x121x121_1_2 (subf (broadcastInDim S121x121 ![] bcast_S_S121x121 (constant S_ .f32 0x3F800000#32)) (res_main_while0b_v118 V0))))) (mulf (broadcastInDim S3x121x121 ![0, 1, 2] bcast_S3x1x1_S3x121x121_0_1_2 (broadcastInDim S3x1x1 ![0] bcast_S3_S3x1x1_0 (shapeCast S3 (Host.dynamicSlice S1x3 (V0 (Proc.devRef .tc main_v64_7)) (fun k => (((![V0 (Proc.devRef .tc main_v64_11), constantI S_ 32 0#32] : Fin 2 → (⟨S_, .i32⟩ : BufTy).Contents (Elt F))) k (Shape.Idx.first h_S_)).toInt) sliceFits_S2048x3_S1x3) shapeCasts_S1x3_S3))) (broadcastInDim S3x121x121 ![0, 1, 2] bcast_S1x121x121_S3x121x121_0_1_2 (broadcastInDim S1x121x121 ![1, 2] bcast_S121x121_S1x121x121_1_2 (res_main_while0b_v118 V0)))) : (Proc.devRef .tc main_while0b_v139 : DevRef τ sig).ty.Contents (Elt F)) = Cert.ReferenceIdeal.Step.b98 j s := by
  unfold Cert.ReferenceIdeal.Step.b98
  rw [← al_92 h, ← al_97 h]
  try rfl
set_option maxRecDepth 8192 in
theorem al_99 (h : Holds V0 s j) : (constantI S_ 32 0#32 : (Proc.devRef .tc main_while0b_c_48 : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_c_49 : DevRef τ sig).ty.Contents (Elt F)) = Cert.ReferenceIdeal.Step.b100 j s := by
  unfold Cert.ReferenceIdeal.Step.b100
  rfl
set_option maxRecDepth 8192 in
theorem al_101 (h : Holds V0 s j) : (cmpi .slt (constantI S_ 32 0#32) (constantI S_ 32 0#32) : (Proc.devRef .tc main_while0b_v140 : DevRef τ sig).ty.Contents (Elt F)) = Cert.ReferenceIdeal.Step.b101 j s := by
  unfold Cert.ReferenceIdeal.Step.b101
  rw [← al_99 h, ← al_100 h]
  try rfl
set_option maxRecDepth 8192 in
theorem al_102 (h : Holds V0 s j) : (constantI S_ 32 0#32 : (Proc.devRef .tc main_while0b_c_50 : DevRef τ sig).ty.Contents (Elt F)) = Cert.ReferenceIdeal.Step.b102 j s := by
  unfold Cert.ReferenceIdeal.Step.b102
  rfl
set_option maxRecDepth 8192 in
theorem al_103 (h : Holds V0 s j) : (constantI S_ 32 3#32 : (Proc.devRef .tc main_while0b_c_51 : DevRef τ sig).ty.Contents (Elt F)) = Cert.ReferenceIdeal.Step.b103 j s := by
  unfold Cert.ReferenceIdeal.Step.b103
  rfl
set_option maxRecDepth 8192 in
theorem al_104 (h : Holds V0 s j) : (addi (constantI S_ 32 0#32) (constantI S_ 32 3#32) : (Proc.devRef .tc main_while0b_v141 : DevRef τ sig).ty.Contents (Elt F)) = Cert.ReferenceIdeal.Step.b104 j s := by
  unfold Cert.ReferenceIdeal.Step.b104
  rw [← al_102 h, ← al_103 h]
  try rfl
set_option maxRecDepth 8192 in
theorem al_105 (h : Holds V0 s j) : (constantI S_ 32 0#32 : (Proc.devRef .tc main_while0b_c_52 : DevRef τ sig).ty.Contents (Elt F)) = Cert.ReferenceIdeal.Step.b105 j s := by
  unfold Cert.ReferenceIdeal.Step.b105
  rfl
set_option maxRecDepth 8192 in
theorem al_106 (h : Holds V0 s j) : (select (cmpi .slt (constantI S_ 32 0#32) (constantI S_ 32 0#32)) (addi (constantI S_ 32 0#32) (constantI S_ 32 3#32)) (constantI S_ 32 0#32) : (Proc.devRef .tc main_while0b_v142 : DevRef τ sig).ty.Contents (Elt F)) = Cert.ReferenceIdeal.Step.b106 j s := by
  unfold Cert.ReferenceIdeal.Step.b106
  rw [← al_101 h, ← al_104 h, ← al_105 h]
  try rfl
set_option maxRecDepth 8192 in
theorem al_107 (h : Holds V0 s j) : (constantI S_ 32 0#32 : (Proc.devRef .tc main_while0b_c_53 : DevRef τ sig).ty.Contents (Elt F)) = Cert.ReferenceIdeal.Step.b107 j s := by
  unfold Cert.ReferenceIdeal.Step.b107
  rfl
set_option maxRecDepth 8192 in
theorem al_108 (h : Holds V0 s j) : (cmpi .slt (res_main_while0b_v69 V0) (constantI S_ 32 0#32) : (Proc.devRef .tc main_while0b_v143 : DevRef τ sig).ty.Contents (Elt F)) = Cert.ReferenceIdeal.Step.b108 j s := by
  unfold Cert.ReferenceIdeal.Step.b108
  rw [← al_7 h, ← al_107 h]
  try rfl
set_option maxRecDepth 8192 in
theorem al_109 (h : Holds V0 s j) : (constantI S_ 32 600#32 : (Proc.devRef .tc main_while0b_c_54 : DevRef τ sig).ty.Contents (Elt F)) = Cert.ReferenceIdeal.Step.b109 j s := by
  unfold Cert.ReferenceIdeal.Step.b109
  rfl
set_option maxRecDepth 8192 in
theorem al_110 (h : Holds V0 s j) : (addi (res_main_while0b_v69 V0) (constantI S_ 32 600#32) : (Proc.devRef .tc main_while0b_v144 : DevRef τ sig).ty.Contents (Elt F)) = Cert.ReferenceIdeal.Step.b110 j s := by
  unfold Cert.ReferenceIdeal.Step.b110
  rw [← al_7 h, ← al_109 h]
  try rfl
set_option maxRecDepth 8192 in
theorem al_111 (h : Holds V0 s j) : (select (cmpi .slt (res_main_while0b_v69 V0) (constantI S_ 32 0#32)) (addi (res_main_while0b_v69 V0) (constantI S_ 32 600#32)) (res_main_while0b_v69 V0) : (Proc.devRef .tc main_while0b_v145 : DevRef τ sig).ty.Contents (Elt F)) = Cert.ReferenceIdeal.Step.b111 j s := by
  unfold Cert.ReferenceIdeal.Step.b111
  rw [← al_108 h, ← al_110 h, ← al_7 h]
  try rfl
set_option maxRecDepth 8192 in
theorem al_112 (h : Holds V0 s j) : (constantI S_ 32 0#32 : (Proc.devRef .tc main_while0b_c_55 : DevRef τ sig).ty.Contents (Elt F)) = Cert.ReferenceIdeal.Step.b112 j s := by
  unfold Cert.ReferenceIdeal.Step.b112
  rfl
set_option maxRecDepth 8192 in
theorem al_113 (h : Holds V0 s j) : (cmpi .slt (res_main_while0b_v68 V0) (constantI S_ 32 0#32) : (Proc.devRef .tc main_while0b_v146 : DevRef τ sig).ty.Contents (Elt F)) = Cert.ReferenceIdeal.Step.b113 j s := by
  unfold Cert.ReferenceIdeal.Step.b113
  rw [← al_5 h, ← al_112 h]
  try rfl
set_option maxRecDepth 8192 in
theorem al_114 (h : Holds V0 s j) : (constantI S_ 32 760#32 : (Proc.devRef .tc main_while0b_c_56 : DevRef τ sig).ty.Contents (Elt F)) = Cert.ReferenceIdeal.Step.b114 j s := by
  unfold Cert.ReferenceIdeal.Step.b114
  rfl
set_option maxRecDepth 8192 in
theorem al_115 (h : Holds V0 s j) : (addi (res_main_while0b_v68 V0) (constantI S_ 32 760#32) : (Proc.devRef .tc main_while0b_v147 : DevRef τ sig).ty.Contents (Elt F)) = Cert.ReferenceIdeal.Step.b115 j s := by
  unfold Cert.ReferenceIdeal.Step.b115
  rw [← al_5 h, ← al_114 h]
  try rfl
set_option maxRecDepth 8192 in
theorem al_116 (h : Holds V0 s j) : (select (cmpi .slt (res_main_while0b_v68 V0) (constantI S_ 32 0#32)) (addi (res_main_while0b_v68 V0) (constantI S_ 32 760#32)) (res_main_while0b_v68 V0) : (Proc.devRef .tc main_while0b_v148 : DevRef τ sig).ty.Contents (Elt F)) = Cert.ReferenceIdeal.Step.b116 j s := by
  unfold Cert.ReferenceIdeal.Step.b116
  rw [← al_113 h, ← al_115 h, ← al_5 h]
  try rfl
set_option maxRecDepth 8192 in
theorem al_117 (h : Holds V0 s j) : (Host.dynamicUpdateSlice (V0 (Proc.devRef .tc main_v64_12)) (addf (mulf (Host.dynamicSlice S3x121x121 (V0 (Proc.devRef .tc main_v64_12)) (fun k => (((![select (cmpi .slt (constantI S_ 32 0#32) (constantI S_ 32 0#32)) (addi (constantI S_ 32 0#32) (constantI S_ 32 3#32)) (constantI S_ 32 0#32), select (cmpi .slt (res_main_while0b_v69 V0) (constantI S_ 32 0#32)) (addi (res_main_while0b_v69 V0) (constantI S_ 32 600#32)) (res_main_while0b_v69 V0), select (cmpi .slt (res_main_while0b_v68 V0) (constantI S_ 32 0#32)) (addi (res_main_while0b_v68 V0) (constantI S_ 32 760#32)) (res_main_while0b_v68 V0)] : Fin 3 → (⟨S_, .i32⟩ : BufTy).Contents (Elt F))) k (Shape.Idx.first h_S_)).toInt) sliceFits_S3x600x760_S3x121x121) (broadcastInDim S3x121x121 ![0, 1, 2] bcast_S1x121x121_S3x121x121_0_1_2 (broadcastInDim S1x121x121 ![1, 2] bcast_S121x121_S1x121x121_1_2 (subf (broadcastInDim S121x121 ![] bcast_S_S121x121 (constant S_ .f32 0x3F800000#32)) (res_main_while0b_v118 V0))))) (mulf (broadcastInDim S3x121x121 ![0, 1, 2] bcast_S3x1x1_S3x121x121_0_1_2 (broadcastInDim S3x1x1 ![0] bcast_S3_S3x1x1_0 (shapeCast S3 (Host.dynamicSlice S1x3 (V0 (Proc.devRef .tc main_v64_7)) (fun k => (((![V0 (Proc.devRef .tc main_v64_11), constantI S_ 32 0#32] : Fin 2 → (⟨S_, .i32⟩ : BufTy).Contents (Elt F))) k (Shape.Idx.first h_S_)).toInt) sliceFits_S2048x3_S1x3) shapeCasts_S1x3_S3))) (broadcastInDim S3x121x121 ![0, 1, 2] bcast_S1x121x121_S3x121x121_0_1_2 (broadcastInDim S1x121x121 ![1, 2] bcast_S121x121_S1x121x121_1_2 (res_main_while0b_v118 V0))))) (fun k => (((![select (cmpi .slt (constantI S_ 32 0#32) (constantI S_ 32 0#32)) (addi (constantI S_ 32 0#32) (constantI S_ 32 3#32)) (constantI S_ 32 0#32), select (cmpi .slt (res_main_while0b_v69 V0) (constantI S_ 32 0#32)) (addi (res_main_while0b_v69 V0) (constantI S_ 32 600#32)) (res_main_while0b_v69 V0), select (cmpi .slt (res_main_while0b_v68 V0) (constantI S_ 32 0#32)) (addi (res_main_while0b_v68 V0) (constantI S_ 32 760#32)) (res_main_while0b_v68 V0)] : Fin 3 → (⟨S_, .i32⟩ : BufTy).Contents (Elt F))) k (Shape.Idx.first h_S_)).toInt) updateFits_S3x600x760_S3x121x121 : (Proc.devRef .tc main_while0b_v149 : DevRef τ sig).ty.Contents (Elt F)) = Cert.ReferenceIdeal.Step.b117 j s := by
  unfold Cert.ReferenceIdeal.Step.b117
  rw [← al_98 h, ← al_106 h, ← al_111 h, ← al_116 h, h.f_12]
  try rfl

/-! One trip's step of the carried values is `step`, field by field; a counter steps to the next number. -/

theorem step_12 (h : Holds V0 s j) : step_main_v64_12 V0 = (step j s).main_v64_12 := by
  unfold step_main_v64_12 Cert.ReferenceIdeal.Step.step
  exact al_117 h
theorem step_11 (h : Holds V0 s j) : step_main_v64_11 V0 = constantI S_ 32 (BitVec.ofNat 32 (j + 1)) := by
  unfold step_main_v64_11
  rw [h.n_11]
  funext i
  show BitVec.ofNat 32 j + 1#32 = BitVec.ofNat 32 (j + 1)
  simp only [BitVec.ofNat_add]

set_option maxRecDepth 8192 in
theorem out_main_v65_holds (h : Holds V0 s j) : out_main_v65 V0 = Cert.ReferenceIdeal.Step.R_main_v65 s := by
  unfold out_main_v65 Cert.ReferenceIdeal.Step.R_main_v65
  rw [h.f_12]
  try rfl

/-- One trip keeps the valuation holding: `step` of the state, the same set-up values, the next number. -/
theorem holds_step (h : Holds V0 s j) : Holds (STEP V0) (step j s) (j + 1) where
  f_12 := (STEP_main_v64_12 V0).trans (step_12 h)
  n_11 := (STEP_main_v64_11 V0).trans (step_11 h)
  k_9 := (STEP_main_v64_9 V0).trans h.k_9
  k_10 := (STEP_main_v64_10 V0).trans h.k_10
  f_0 := (STEP_main_v64_0 V0).trans h.f_0
  f_1 := (STEP_main_v64_1 V0).trans h.f_1
  f_2 := (STEP_main_v64_2 V0).trans h.f_2
  f_3 := (STEP_main_v64_3 V0).trans h.f_3
  f_4 := (STEP_main_v64_4 V0).trans h.f_4
  f_5 := (STEP_main_v64_5 V0).trans h.f_5
  f_6 := (STEP_main_v64_6 V0).trans h.f_6
  f_7 := (STEP_main_v64_7 V0).trans h.f_7
  f_8 := (STEP_main_v64_8 V0).trans h.f_8

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg3)) (m ((c.tc : Thread nD τ).loc main_arg0)) (m ((c.tc : Thread nD τ).loc main_arg1)) (m ((c.tc : Thread nD τ).loc main_arg5))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v65) = Cert.ReferenceIdeal.Step.R_main_v65 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 2048
    ⟨(h c).1.trans (out_main_v65_holds hk), (h c).2.1, (h c).2.2.1, (h c).2.2.2.1, (h c).2.2.2.2.1, (h c).2.2.2.2.2.1, (h c).2.2.2.2.2.2⟩) (Value.run m ρ)

end Cert.ReferenceIdeal.RefRun

end
-- ==== Proof.Scene.lean ====
/- Gaussians on the screen over the extended reals: how much each covers of a pixel, and the two orders of blending. -/
module

public import Idealize.ShloMosaic.Lib.Pointwise

@[expose] public section

noncomputable section

namespace Cert.Scene

open Idealize.ShloMosaic

/-! ### The constants -/

theorem w640 : Ideal.ofBits .f32 0x44200000#32 = ((640 : ℝ) : EReal) := by simp [Ideal.ofBits, Ideal.ieee, -EReal.coe_mul]; norm_num
theorem w480 : Ideal.ofBits .f32 0x43F00000#32 = ((480 : ℝ) : EReal) := by simp [Ideal.ofBits, Ideal.ieee, -EReal.coe_mul]; norm_num
theorem w639 : Ideal.ofBits .f32 0x441FC000#32 = ((639 : ℝ) : EReal) := by simp [Ideal.ofBits, Ideal.ieee, -EReal.coe_mul]; norm_num
theorem w479 : Ideal.ofBits .f32 0x43EF8000#32 = ((479 : ℝ) : EReal) := by simp [Ideal.ofBits, Ideal.ieee, -EReal.coe_mul]; norm_num
theorem w20 : Ideal.ofBits .f32 0x41A00000#32 = ((20 : ℝ) : EReal) := by simp [Ideal.ofBits, Ideal.ieee, -EReal.coe_mul]; norm_num
theorem w3 : Ideal.ofBits .f32 0x40400000#32 = ((3 : ℝ) : EReal) := by simp [Ideal.ofBits, Ideal.ieee, -EReal.coe_mul]; norm_num
theorem w60 : Ideal.ofBits .f32 0x42700000#32 = ((60 : ℝ) : EReal) := by simp [Ideal.ofBits, Ideal.ieee, -EReal.coe_mul]; norm_num
theorem w95 : Ideal.ofBits .f32 0x42BE0000#32 = ((95 : ℝ) : EReal) := by simp [Ideal.ofBits, Ideal.ieee, -EReal.coe_mul]; norm_num
theorem w1024 : Ideal.ofBits .f32 0x44800000#32 = ((1024 : ℝ) : EReal) := by simp [Ideal.ofBits, Ideal.ieee, -EReal.coe_mul]; norm_num
theorem wInv1024 : Ideal.ofBits .f32 0x3A800000#32 = ((1 / 1024 : ℝ) : EReal) := by simp [Ideal.ofBits, Ideal.ieee, -EReal.coe_mul]; norm_num
theorem wNegHalf : Ideal.ofBits .f32 0xBF000000#32 = ((-(1 / 2) : ℝ) : EReal) := by simp [Ideal.ofBits, Ideal.ieee, -EReal.coe_mul]; norm_num
theorem wNegOne : Ideal.ofBits .f32 0xBF800000#32 = ((-1 : ℝ) : EReal) := by simp [Ideal.ofBits, Ideal.ieee, -EReal.coe_mul]; try norm_num
theorem wBig : Ideal.ofBits .f32 0x4E6E6B28#32 = ((1000000000 : ℝ) : EReal) := by simp [Ideal.ofBits, Ideal.ieee, -EReal.coe_mul]; norm_num
theorem wBot : Ideal.ofBits .f32 0xFF800000#32 = ⊥ := by simp [Ideal.ofBits, Ideal.ieee, -EReal.coe_mul]
theorem wTop : Ideal.ofBits .f32 0x7F800000#32 = ⊤ := by simp [Ideal.ofBits, Ideal.ieee, -EReal.coe_mul]

/-! ### Projection -/

/-- The depth of a point from its third coordinate before the camera. -/
def depth (z : EReal) : EReal := max (-z) (Ideal.ofBits .f32 0x3DCCCCCD#32)
/-- A coordinate on the screen. -/
def proj (x z : EReal) (w : BitVec 32) : EReal := Ideal.div (Ideal.ofBits .f32 0x4419ADB7#32 * x) (depth z) + Ideal.ofBits .f32 w
/-- A size on the screen, from the sum of three scales. -/
def size (s z : EReal) : EReal :=
  min (Ideal.ofBits .f32 0x41A00000#32) (max 1 (Ideal.div (Ideal.div s (Ideal.ofBits .f32 0x40400000#32) * Ideal.ofBits .f32 0x4419ADB7#32) (depth z)))

theorem size_real (s z : EReal) : ∃ r : ℝ, size s z = (r : EReal) ∧ 1 ≤ r ∧ r ≤ 20 := by
  unfold size
  rw [w20]
  generalize Ideal.div _ _ = u
  have h1 : ((1 : ℝ) : EReal) ≤ min ((20 : ℝ) : EReal) (max 1 u) :=
    le_min (by exact_mod_cast (by norm_num : (1 : ℝ) ≤ 20)) (by simp)
  have h2 : min ((20 : ℝ) : EReal) (max 1 u) ≤ ((20 : ℝ) : EReal) := min_le_left _ _
  generalize min ((20 : ℝ) : EReal) (max 1 u) = v at h1 h2
  induction v with
  | bot => exact absurd h1 (not_le.2 (EReal.bot_lt_coe 1))
  | top => simp at h2
  | coe r => exact ⟨r, rfl, by exact_mod_cast h1, by exact_mod_cast h2⟩

/-- A projected Gaussian: where it lies on the screen, its size there, its opacity and colour. -/
structure Gauss where
  sx : EReal
  sy : EReal
  ss : EReal
  op : EReal
  col : Fin 3 → EReal
  hss : ∃ r : ℝ, ss = (r : EReal) ∧ 1 ≤ r ∧ r ≤ 20

namespace Gauss

variable (g : Gauss)

/-- The Gaussian's centre lies on the screen. -/
def Seen : Prop := 0 ≤ g.sx ∧ g.sx < ((640 : ℝ) : EReal) ∧ 0 ≤ g.sy ∧ g.sy < ((480 : ℝ) : EReal)
instance : Decidable g.Seen := Classical.dec _
/-- Its radius in pixels. -/
def rad : EReal := Ideal.liftRound Int.floor (g.ss * Ideal.ofBits .f32 0x40400000#32)
/-- The column its centre falls in. -/
def xi : EReal := min (Ideal.ofBits .f32 0x441FC000#32) (max 0 (Ideal.liftRound Int.floor g.sx))
/-- The row its centre falls in. -/
def yi : EReal := min (Ideal.ofBits .f32 0x43EF8000#32) (max 0 (Ideal.liftRound Int.floor g.sy))
def ninv : EReal := Ideal.div (Ideal.ofBits .f32 0xBF000000#32) (g.ss * g.ss)
def opv : EReal := if g.Seen then g.op else 0
def lox : EReal := if g.Seen then g.xi - g.rad else Ideal.ofBits .f32 0x4E6E6B28#32
def hix : EReal := if g.Seen then g.xi + g.rad else 0 - Ideal.ofBits .f32 0x4E6E6B28#32
def loy : EReal := if g.Seen then g.yi - g.rad else Ideal.ofBits .f32 0x4E6E6B28#32
def hiy : EReal := if g.Seen then g.yi + g.rad else 0 - Ideal.ofBits .f32 0x4E6E6B28#32
/-- The rows it touches, in one number. -/
def enc : EReal :=
  if g.Seen then (g.loy + Ideal.ofBits .f32 0x42700000#32) * Ideal.ofBits .f32 0x44800000#32 + (g.hiy + Ideal.ofBits .f32 0x42700000#32)
  else Ideal.ofBits .f32 0xBF800000#32

/-- Its column, row and radius as whole numbers. -/
def cx : ℤ := ⌊g.sx.toReal⌋
def cy : ℤ := ⌊g.sy.toReal⌋
def rd : ℤ := ⌊g.ss.toReal * 3⌋

/-- How much of the pixel in row `y`, column `x` the Gaussian covers. -/
def alpha (y x : ℤ) : ℝ :=
  if g.Seen ∧ |x - g.cx| ≤ g.rd ∧ |y - g.cy| ≤ g.rd then
    g.op.toReal * Real.exp (-(1 / 2) * (((x : ℝ) - g.sx.toReal) * ((x : ℝ) - g.sx.toReal) + ((y : ℝ) - g.sy.toReal) * ((y : ℝ) - g.sy.toReal)) / (g.ss.toReal * g.ss.toReal))
  else 0

theorem rd_le : 3 ≤ g.rd ∧ g.rd ≤ 60 := by
  obtain ⟨r, h, h1, h2⟩ := g.hss
  unfold rd
  rw [h, EReal.toReal_coe]
  constructor
  · rw [Int.le_floor]; push_cast; linarith
  · have : (⌊r * 3⌋ : ℝ) ≤ r * 3 := Int.floor_le _
    have : (⌊r * 3⌋ : ℝ) ≤ 60 := by linarith
    exact_mod_cast this

theorem rad_eq : g.rad = ((g.rd : ℝ) : EReal) := by
  obtain ⟨r, h, h1, h2⟩ := g.hss
  unfold rad rd
  rw [h, w3, ← EReal.coe_mul, Ideal.liftRound_coe, EReal.toReal_coe]

theorem ss_eq : g.ss = (g.ss.toReal : EReal) := by
  obtain ⟨r, h, h1, h2⟩ := g.hss
  rw [h, EReal.toReal_coe]

theorem ss_pos : 0 < g.ss.toReal := by
  obtain ⟨r, h, h1, h2⟩ := g.hss
  rw [h, EReal.toReal_coe]; linarith

theorem real_of_bounds {x : EReal} {b : ℝ} (h0 : 0 ≤ x) (h1 : x < (b : EReal)) : x = (x.toReal : EReal) ∧ 0 ≤ x.toReal ∧ x.toReal < b := by
  induction x with
  | bot => simp at h0
  | top => simp at h1
  | coe r => exact ⟨by simp, by simpa using h0, by simpa using h1⟩

variable {g}

theorem sx_eq (h : g.Seen) : g.sx = (g.sx.toReal : EReal) := (real_of_bounds h.1 h.2.1).1
theorem sy_eq (h : g.Seen) : g.sy = (g.sy.toReal : EReal) := (real_of_bounds h.2.2.1 h.2.2.2).1

theorem floor_bounds {r : ℝ} {n : ℤ} (h0 : 0 ≤ r) (h1 : r < n) : 0 ≤ ⌊r⌋ ∧ ⌊r⌋ ≤ n - 1 :=
  ⟨Int.floor_nonneg.2 h0, Int.le_sub_one_of_lt (Int.floor_lt.2 h1)⟩

theorem cx_bounds (h : g.Seen) : 0 ≤ g.cx ∧ g.cx ≤ 639 :=
  floor_bounds (n := 640) (real_of_bounds h.1 h.2.1).2.1 (by exact_mod_cast (real_of_bounds h.1 h.2.1).2.2)
theorem cy_bounds (h : g.Seen) : 0 ≤ g.cy ∧ g.cy ≤ 479 :=
  floor_bounds (n := 480) (real_of_bounds h.2.2.1 h.2.2.2).2.1 (by exact_mod_cast (real_of_bounds h.2.2.1 h.2.2.2).2.2)

theorem xi_eq (h : g.Seen) : g.xi = ((g.cx : ℝ) : EReal) := by
  unfold xi
  rw [sx_eq h, Ideal.liftRound_coe, w639]
  have := cx_bounds h
  unfold cx at *
  rw [max_eq_right (by exact_mod_cast this.1), min_eq_right (by exact_mod_cast this.2)]
theorem yi_eq (h : g.Seen) : g.yi = ((g.cy : ℝ) : EReal) := by
  unfold yi
  rw [sy_eq h, Ideal.liftRound_coe, w479]
  have := cy_bounds h
  unfold cy at *
  rw [max_eq_right (by exact_mod_cast this.1), min_eq_right (by exact_mod_cast this.2)]

theorem lox_eq (h : g.Seen) : g.lox = (((g.cx - g.rd : ℤ) : ℝ) : EReal) := by
  unfold lox; rw [if_pos h, xi_eq h, rad_eq]; push_cast; rfl
theorem hix_eq (h : g.Seen) : g.hix = (((g.cx + g.rd : ℤ) : ℝ) : EReal) := by
  unfold hix; rw [if_pos h, xi_eq h, rad_eq]; push_cast; rfl
theorem loy_eq (h : g.Seen) : g.loy = (((g.cy - g.rd : ℤ) : ℝ) : EReal) := by
  unfold loy; rw [if_pos h, yi_eq h, rad_eq]; push_cast; rfl
theorem hiy_eq (h : g.Seen) : g.hiy = (((g.cy + g.rd : ℤ) : ℝ) : EReal) := by
  unfold hiy; rw [if_pos h, yi_eq h, rad_eq]; push_cast; rfl

theorem enc_eq (h : g.Seen) : g.enc = ((((g.cy - g.rd + 60) * 1024 + (g.cy + g.rd + 60) : ℤ) : ℝ) : EReal) := by
  unfold enc; rw [if_pos h, loy_eq h, hiy_eq h, w60, w1024]; push_cast; rfl

theorem enc_nonneg_iff : 0 ≤ g.enc ↔ g.Seen := by
  by_cases h : g.Seen
  · simp only [h, iff_true]
    rw [enc_eq h]
    have := cy_bounds h; have := g.rd_le
    exact_mod_cast (by nlinarith : (0 : ℤ) ≤ (g.cy - g.rd + 60) * 1024 + (g.cy + g.rd + 60))
  · simp only [h, iff_false]
    unfold enc
    rw [if_neg h, wNegOne]
    intro h'
    have : (0 : ℝ) ≤ -1 := by exact_mod_cast h'
    linarith

/-- The upper part of the encoded bounds. -/
theorem enc_hi (h : g.Seen) : Ideal.liftRound Int.floor (g.enc * Ideal.ofBits .f32 0x3A800000#32) = (((g.cy - g.rd + 60 : ℤ) : ℝ) : EReal) := by
  rw [enc_eq h, wInv1024, ← EReal.coe_mul, Ideal.liftRound_coe]
  congr 2
  have := cy_bounds h; have := g.rd_le
  rw [Int.floor_eq_iff]
  push_cast
  have h1 : (0 : ℝ) ≤ g.cy + g.rd + 60 := by exact_mod_cast (by omega : 0 ≤ g.cy + g.rd + 60)
  have h2 : (g.cy + g.rd + 60 : ℝ) < 1024 := by exact_mod_cast (by omega : g.cy + g.rd + 60 < 1024)
  constructor <;> linarith

/-- The lower part of the encoded bounds. -/
theorem enc_lo (h : g.Seen) :
    g.enc - Ideal.liftRound Int.floor (g.enc * Ideal.ofBits .f32 0x3A800000#32) * Ideal.ofBits .f32 0x44800000#32 = (((g.cy + g.rd + 60 : ℤ) : ℝ) : EReal) := by
  rw [enc_hi h, enc_eq h, w1024, ← EReal.coe_mul, ← EReal.coe_sub]
  congr 1
  push_cast; ring

theorem coe_le_iff {a b : ℤ} : ((((a : ℤ) : ℝ) : EReal) ≤ (((b : ℤ) : ℝ) : EReal)) ↔ a ≤ b := by
  rw [EReal.coe_le_coe_iff, Int.cast_le]

variable (g) in
/-- What the kernel takes of the light that is left at a pixel. -/
def kam (px py T : EReal) : EReal :=
  ((if g.loy ≤ py ∧ py ≤ g.hiy then Ideal.exp (g.ninv * ((py - g.sy) * (py - g.sy))) else 0)
    * (if g.lox ≤ px ∧ px ≤ g.hix then g.opv * Ideal.exp (g.ninv * ((px - g.sx) * (px - g.sx))) else 0)) * T

theorem kam_eq (hop : g.op = (g.op.toReal : EReal)) (y x : ℤ) (hx : x ≤ 1000) (T : ℝ) :
    g.kam ((x : ℝ) : EReal) ((y : ℝ) : EReal) (T : EReal) = ((g.alpha y x * T : ℝ) : EReal) := by
  by_cases h : g.Seen
  · unfold kam
    rw [loy_eq h, hiy_eq h, lox_eq h, hix_eq h]
    simp only [coe_le_iff]
    by_cases hbx : g.cx - g.rd ≤ x ∧ x ≤ g.cx + g.rd
    · by_cases hby : g.cy - g.rd ≤ y ∧ y ≤ g.cy + g.rd
      · rw [if_pos hbx, if_pos hby]
        have hα : g.alpha y x = g.op.toReal * Real.exp (-(1 / 2) * (((x : ℝ) - g.sx.toReal) * ((x : ℝ) - g.sx.toReal) + ((y : ℝ) - g.sy.toReal) * ((y : ℝ) - g.sy.toReal)) / (g.ss.toReal * g.ss.toReal)) := by
          unfold alpha
          rw [if_pos ⟨h, by rw [abs_le]; omega, by rw [abs_le]; omega⟩]
        rw [hα]
        unfold ninv opv
        have hne : g.ss.toReal * g.ss.toReal ≠ 0 := (mul_pos g.ss_pos g.ss_pos).ne'
        rw [if_pos h, hop, sx_eq h, sy_eq h, ss_eq, wNegHalf, ← EReal.coe_mul, Ideal.div_coe hne]
        simp only [EReal.toReal_coe, ← EReal.coe_sub, ← EReal.coe_mul, Ideal.exp_coe]
        congr 1
        rw [show ∀ a b c d : ℝ, a * (b * c) * d = b * (a * c) * d from fun _ _ _ _ => by ring, ← Real.exp_add]
        congr 3
        field_simp
        ring
      · rw [if_neg hby]
        have : g.alpha y x = 0 := by
          unfold alpha; rw [if_neg]; rintro ⟨-, -, h3⟩; rw [abs_le] at h3; omega
        rw [this]; simp
    · rw [if_neg hbx]
      have : g.alpha y x = 0 := by
        unfold alpha; rw [if_neg]; rintro ⟨-, h3, -⟩; rw [abs_le] at h3; omega
      rw [this]; simp
  · have : g.alpha y x = 0 := by unfold alpha; rw [if_neg]; exact fun h' => h h'.1
    unfold kam lox
    have hn : ¬(((1000000000 : ℝ) : EReal) ≤ ((x : ℝ) : EReal) ∧ ((x : ℝ) : EReal) ≤ g.hix) := by
      rintro ⟨h1, -⟩
      have h2 : (1000000000 : ℝ) ≤ x := by exact_mod_cast h1
      have h3 : (x : ℝ) ≤ 1000 := by exact_mod_cast hx
      linarith
    rw [this, if_neg h, wBig, if_neg hn]
    simp

/-- A Gaussian not seen covers nothing. -/
theorem alpha_unseen (h : ¬g.Seen) (y x : ℤ) : g.alpha y x = 0 := by unfold alpha; rw [if_neg]; exact fun h' => h h'.1

/-- A Gaussian covers nothing of the rows it does not reach. -/
theorem alpha_far (y x : ℤ) (hf : y < g.cy - g.rd ∨ g.cy + g.rd < y) : g.alpha y x = 0 := by
  unfold alpha; rw [if_neg]; rintro ⟨-, -, h3⟩; rw [abs_le] at h3; omega

/-- A Gaussian covers nothing of the columns it does not reach. -/
theorem alpha_farx (y x : ℤ) (hf : x < g.cx - g.rd ∨ g.cx + g.rd < x) : g.alpha y x = 0 := by
  unfold alpha; rw [if_neg]; rintro ⟨-, h3, -⟩; rw [abs_le] at h3; omega

/-- What the reference takes of a pixel is `alpha`. -/
theorem ref_alpha (hop : g.op = (g.op.toReal : EReal)) (y x : ℤ) (b : Prop) [Decidable b]
    (hb : b ↔ g.Seen ∧ |x - g.cx| ≤ g.rd ∧ |y - g.cy| ≤ g.rd) :
    g.op * Ideal.exp (Ideal.div (Ideal.ofBits .f32 0xBF000000#32 * ((((x : ℝ) : EReal) - g.sx) * (((x : ℝ) : EReal) - g.sx)
        + (((y : ℝ) : EReal) - g.sy) * (((y : ℝ) : EReal) - g.sy))) (g.ss * g.ss)) * (if b then 1 else 0)
      = ((g.alpha y x : ℝ) : EReal) := by
  by_cases h : b
  · rw [if_pos h, mul_one]
    unfold alpha
    rw [if_pos (hb.1 h)]
    have hs := (hb.1 h).1
    have hne : g.ss.toReal * g.ss.toReal ≠ 0 := (mul_pos g.ss_pos g.ss_pos).ne'
    rw [hop, sx_eq hs, sy_eq hs, ss_eq, wNegHalf, ← EReal.coe_mul g.ss.toReal, Ideal.div_coe hne]
    simp only [EReal.toReal_coe, ← EReal.coe_sub, ← EReal.coe_mul, ← EReal.coe_add, Ideal.exp_coe]
    congr 3
    rw [mul_one_div]
  · rw [if_neg h, mul_zero]
    unfold alpha
    rw [if_neg (fun h' => h (hb.2 h'))]; rfl

end Gauss

/-- The Gaussian of a point before the camera, the sum of its scales, its opacity and its colour. -/
def gaussOf (x y z s op : EReal) (col : Fin 3 → EReal) : Gauss where
  sx := proj x z 0x43A00000#32
  sy := proj y z 0x43700000#32
  ss := size s z
  op := op
  col := col
  hss := size_real s z

/-! ### Bits -/

theorem ofBool_iff (b : Bool) : BitVec.ofBool b = 1#1 ↔ b = true := by cases b <;> decide
theorem bit_and (x y : BitVec 1) : IntOp.andi x y = 1#1 ↔ x = 1#1 ∧ y = 1#1 := by
  rcases BitVec.eq_zero_or_eq_one x with rfl | rfl <;> rcases BitVec.eq_zero_or_eq_one y with rfl | rfl <;> decide

theorem sel_iff {α : Type} {c : BitVec 1} {p : Prop} [Decidable p] (h : c = 1#1 ↔ p) (x y : α) : Scalar.select c x y = if p then x else y := by
  show (if c = 1#1 then x else y) = _
  by_cases hp : p
  · rw [if_pos hp, if_pos (h.2 hp)]
  · rw [if_neg hp, if_neg (fun hc => hp (h.1 hc))]

/-! ### Blending -/

section Blend
variable (a c : ℕ → ℝ)

/-- Front to back: the light that is left, and the picture. -/
def thru (s : ℝ × ℝ) (k : ℕ) : ℝ × ℝ := (s.1 - a k * s.1, s.2 + a k * s.1 * c k)
/-- Back to front: the picture. -/
def over (z : ℝ) (k : ℕ) : ℝ := z * (1 - a k) + c k * a k

theorem over_eq_thru (L : List ℕ) : ∀ z : ℝ, L.foldl (over a c) z = z * (L.reverse.foldl (thru a c) (1, 0)).1 + (L.reverse.foldl (thru a c) (1, 0)).2 := by
  induction L with
  | nil => intro z; simp
  | cons k L ih =>
    intro z
    rw [List.foldl_cons, ih, List.reverse_cons, List.foldl_append, List.foldl_cons, List.foldl_nil]
    simp only [thru, over]
    ring

theorem over_filter (p : ℕ → Bool) (L : List ℕ) : (∀ k ∈ L, p k = false → a k = 0) → ∀ z : ℝ,
    L.foldl (over a c) z = (L.filter p).foldl (over a c) z := by
  induction L with
  | nil => intro _ z; rfl
  | cons k L ih =>
    intro h z
    have ih' := ih (fun j hj => h j (List.mem_cons_of_mem _ hj))
    rw [List.foldl_cons, ih']
    by_cases hp : p k = true
    · rw [List.filter_cons_of_pos hp, List.foldl_cons]
    · have hp' : p k = false := by simpa using hp
      rw [List.filter_cons_of_neg hp]
      have : over a c z k = z := by unfold over; rw [h k List.mem_cons_self hp']; ring
      rw [this]
end Blend

/-! ### Scenes and pictures -/

/-- The scene that reads the points, sizes, colours and opacities. -/
def sceneOf (cam sc co : Fin 2048 → Fin 3 → EReal) (op : Fin 2048 → EReal) (k : ℕ) : Gauss :=
  let n : Fin 2048 := ⟨k % 2048, Nat.mod_lt _ (by norm_num)⟩
  gaussOf (cam n 0) (cam n 1) (cam n 2) (sc n 0 + sc n 1 + sc n 2) (op n) (co n)

/-- The picture of a scene at a pixel: the Gaussians painted over each other in order. -/
def picture (g : ℕ → Gauss) (ch : Fin 3) (y x : ℤ) : ℝ :=
  (List.range 2048).foldl (over (fun k => (g k).alpha y x) (fun k => ((g k).col ch).toReal)) 0

end Cert.Scene

end
-- ==== Proof.KITab.lean ====
/- The table of projected Gaussians that the kernel makes, entry by entry. -/
module

public import proofs.«01_k».proof.Proof.KIBody
public import proofs.«01_k».proof.Proof.Scene
public import Idealize.ShloMosaic.Lib.Pointwise

@[expose] public section

set_option maxRecDepth 16384

noncomputable section

namespace Cert.KernelIdeal.Hand

open Cert.KernelIdeal Cert.KernelIdeal.Gen Cert.SplatIdeal Cert.Scene
open Idealize.ShloMosaic

variable (G : S10x8x256.Idx → Elt Ideal .f32)

/-- The Gaussian at place `(a, b)` of the inputs. -/
def gk (a : Fin 8) (b : Fin 256) : Gauss :=
  gaussOf (G (ValueIdx.ix3 0 a b)) (G (ValueIdx.ix3 1 a b)) (G (ValueIdx.ix3 2 a b)) (G (ValueIdx.ix3 3 a b) + G (ValueIdx.ix3 4 a b) + G (ValueIdx.ix3 5 a b)) (G (ValueIdx.ix3 9 a b))
    (fun ch => G (ValueIdx.ix3 ⟨6 + ch.val, by omega⟩ a b))

theorem valid_iff (a : Fin 8) (b : Fin 256) : validOf G (ix2 a b) = 1#1 ↔ (gk G a b).Seen := by
  pointwise [validOf, k0_pay34, k0_pay22, k0_pay30, k0_pay31, k0_pay32, k0_pay33, inRow]
  simp only [bit_and, ofBool_iff, decide_eq_true_eq, w640, w480, zero_sub]
  unfold Gauss.Seen gk gaussOf proj depth
  dsimp only
  tauto

/-- The radius at a place. -/
theorem rad_at (a : Fin 8) (b : Fin 256) : radOf G (ix2 a b) = (gk G a b).rad := by
  pointwise [radOf, k0_pay36, k0_pay23, k0_pay24, k0_pay25, k0_pay30, k0_pay35, inRow]
  unfold Gauss.rad gk gaussOf size depth
  simp only [zero_sub]
theorem row_at (a : Fin 8) (b : Fin 256) : rowOf G (ix2 a b) = (gk G a b).yi := by
  pointwise [rowOf, k0_pay38, k0_pay33, k0_pay22, k0_pay30, inRow]
  unfold Gauss.yi gk gaussOf proj depth
  simp only [zero_sub]
theorem col_at (a : Fin 8) (b : Fin 256) : colOf G (ix2 a b) = (gk G a b).xi := by
  pointwise [colOf, k0_pay37, k0_pay31, k0_pay32, k0_pay30, inRow]
  unfold Gauss.xi gk gaussOf proj depth
  simp only [zero_sub]
theorem scale_at (a : Fin 8) (b : Fin 256) : scaleOf G (ix2 a b) = (gk G a b).ss := by
  pointwise [scaleOf, k0_pay23, k0_pay24, k0_pay25, k0_pay30, k0_pay35, inRow]
  unfold gk gaussOf size depth
  simp only [zero_sub]
theorem loy_at (a : Fin 8) (b : Fin 256) : k0_pay42 (validOf G) (radOf G) (rowOf G) (ix2 a b) = (gk G a b).loy := by
  pointwise [k0_pay42]
  rw [sel_iff (valid_iff G a b), rad_at, row_at]; rfl
theorem hiy_at (a : Fin 8) (b : Fin 256) : k0_pay43 (validOf G) (radOf G) (rowOf G) (ix2 a b) = (gk G a b).hiy := by
  pointwise [k0_pay43]
  rw [sel_iff (valid_iff G a b), rad_at, row_at]; rfl
theorem hix_at (a : Fin 8) (b : Fin 256) : k0_pay41 (validOf G) (radOf G) (colOf G) (ix2 a b) = (gk G a b).hix := by
  pointwise [k0_pay41]
  rw [sel_iff (valid_iff G a b), rad_at, col_at]; rfl

/-- The place of Gaussian `k`. -/
abbrev hiK (k : Fin 2048) : Fin 8 := ⟨k.val / 256, by omega⟩
abbrev loK (k : Fin 2048) : Fin 256 := ⟨k.val % 256, by omega⟩
/-- Gaussian `k`. -/
def gn (k : Fin 2048) : Gauss := gk G (hiK k) (loK k)

theorem tbl_0 (k : Fin 2048) : tblOf G (ix2 k 0) = (gn G k).sx := by
  pointwise [tblOf, k0_pay1, k0_pay48, k0_pay32, k0_pay31, k0_pay30, inRow]
  unfold gn gk gaussOf proj depth
  simp only [zero_sub]
theorem tbl_1 (k : Fin 2048) : tblOf G (ix2 k 1) = (gn G k).sy := by
  pointwise [tblOf, k0_pay1, k0_pay33, k0_pay22, k0_pay30, inRow]
  unfold gn gk gaussOf proj depth
  simp only [zero_sub]
theorem tbl_2 (k : Fin 2048) : tblOf G (ix2 k 2) = (gn G k).ninv := by
  pointwise [tblOf, k0_pay1, k0_pay45]
  rw [scale_at]; rfl
theorem tbl_3 (k : Fin 2048) : tblOf G (ix2 k 3) = (gn G k).opv := by
  pointwise [tblOf, k0_pay1, k0_pay44, k0_pay29, inRow]
  rw [sel_iff (valid_iff G _ _)]; rfl
theorem tbl_4 (k : Fin 2048) : tblOf G (ix2 k 4) = (gn G k).lox := by
  pointwise [tblOf, k0_pay1, k0_pay40, k0_pay39, k0_pay36, k0_pay37, k0_pay23, k0_pay24, k0_pay25, k0_pay30, k0_pay31, k0_pay35, k0_pay32, inRow]
  rw [sel_iff (valid_iff G _ _)]
  unfold gn Gauss.lox Gauss.xi Gauss.rad
  congr 1
  unfold gk gaussOf proj size depth
  simp only [zero_sub]
theorem tbl_5 (k : Fin 2048) : tblOf G (ix2 k 5) = (gn G k).hix := by
  pointwise [tblOf, k0_pay1]
  rw [hix_at]; rfl
theorem tbl_6 (k : Fin 2048) : tblOf G (ix2 k 6) = (gn G k).loy := by
  pointwise [tblOf, k0_pay1]
  rw [loy_at]; rfl
theorem tbl_7 (k : Fin 2048) : tblOf G (ix2 k 7) = (gn G k).hiy := by
  pointwise [tblOf, k0_pay1]
  rw [hiy_at]; rfl
theorem tbl_8 (k : Fin 2048) : tblOf G (ix2 k 8) = (gn G k).col 0 := by
  pointwise [tblOf, k0_pay1, k0_pay26, inRow]
  rfl
theorem tbl_9 (k : Fin 2048) : tblOf G (ix2 k 9) = (gn G k).col 1 := by
  pointwise [tblOf, k0_pay1, k0_pay27, inRow]
  rfl
theorem tbl_10 (k : Fin 2048) : tblOf G (ix2 k 10) = (gn G k).col 2 := by
  pointwise [tblOf, k0_pay1, k0_pay28, inRow]
  rfl

theorem bnd_at (k : Fin 2048) : bndOf G (ix2 0 k) = (gn G k).enc := by
  pointwise [bndOf, k0_pay46]
  rw [sel_iff (valid_iff G _ _), loy_at, hiy_at]; rfl

theorem flg_at (r : Fin 8) : flgOf G (ix2 r 0) = Finset.univ.fold max ⊥ (fun c : Fin 256 => if (gk G r c).Seen then (1 : EReal) else 0) := by
  pointwise [flgOf, k0_pay47]
  rw [wBot]
  congr 1
  funext c
  rw [sel_iff (valid_iff G _ _)]

theorem flg_pos_iff (r : Fin 8) : 0 < flgOf G (ix2 r 0) ↔ ∃ c, (gk G r c).Seen := by
  rw [flg_at, Finset.lt_fold_max]
  constructor
  · rintro (h | ⟨c, -, h⟩)
    · simp at h
    · refine ⟨c, ?_⟩
      by_contra hn
      rw [if_neg hn] at h
      exact lt_irrefl _ h
  · rintro ⟨c, h⟩
    exact Or.inr ⟨c, Finset.mem_univ _, by rw [if_pos h]; exact zero_lt_one⟩

end Cert.KernelIdeal.Hand

end
-- ==== Proof.KIPix.lean ====
/- A pixel of the kernel's image: a front-to-back blend over the Gaussians that are seen. -/
module

public import proofs.«01_k».proof.Proof.KIBody
public import proofs.«01_k».proof.Proof.Scene
public import proofs.«01_k».proof.Proof.KITab
public import proofs.«01_k».proof.Proof.KIRun
public import Idealize.ShloMosaic.Lib.Pointwise

@[expose] public section

set_option maxRecDepth 16384

noncomputable section

namespace Cert.KernelIdeal.Hand

open Cert.KernelIdeal Cert.KernelIdeal.Gen Cert.SplatIdeal Cert.Scene
open Idealize.ShloMosaic

variable (G : S10x8x256.Idx → Elt Ideal .f32)

/-- Gaussian `k`, of the inputs read cyclically. -/
def gN (k : ℕ) : Gauss := gn G ⟨k % 2048, Nat.mod_lt _ (by norm_num)⟩
theorem gN_of_lt {k : ℕ} (h : k < 2048) : gN G k = gn G ⟨k, h⟩ := by
  unfold gN; congr 1; exact Fin.ext (Nat.mod_eq_of_lt h)

theorem tblV_0 (k : Fin 2048) : tblOf G (ValueIdx.ix2 k 0) = (gn G k).sx := tbl_0 G k
theorem tblV_1 (k : Fin 2048) : tblOf G (ValueIdx.ix2 k 1) = (gn G k).sy := tbl_1 G k
theorem tblV_2 (k : Fin 2048) : tblOf G (ValueIdx.ix2 k 2) = (gn G k).ninv := tbl_2 G k
theorem tblV_3 (k : Fin 2048) : tblOf G (ValueIdx.ix2 k 3) = (gn G k).opv := tbl_3 G k
theorem tblV_4 (k : Fin 2048) : tblOf G (ValueIdx.ix2 k 4) = (gn G k).lox := tbl_4 G k
theorem tblV_5 (k : Fin 2048) : tblOf G (ValueIdx.ix2 k 5) = (gn G k).hix := tbl_5 G k
theorem tblV_6 (k : Fin 2048) : tblOf G (ValueIdx.ix2 k 6) = (gn G k).loy := tbl_6 G k
theorem tblV_7 (k : Fin 2048) : tblOf G (ValueIdx.ix2 k 7) = (gn G k).hiy := tbl_7 G k
theorem tblV_8 (k : Fin 2048) : tblOf G (ValueIdx.ix2 k 8) = (gn G k).col 0 := tbl_8 G k
theorem tblV_9 (k : Fin 2048) : tblOf G (ValueIdx.ix2 k 9) = (gn G k).col 1 := tbl_9 G k
theorem tblV_10 (k : Fin 2048) : tblOf G (ValueIdx.ix2 k 10) = (gn G k).col 2 := tbl_10 G k
theorem bndV (k : Fin 2048) : bndOf G (ValueIdx.ix2 0 k) = (gn G k).enc := bnd_at G k

/-- Gaussian `k` is seen. -/
def seenB (k : ℕ) : Bool := decide (gN G k).Seen

theorem pass_eq {k : ℕ} (h : k < 2048) : pass (bndOf G) k = seenB G k := by
  unfold pass seenB
  rw [dif_pos h, gN_of_lt G h, Bool.eq_iff_iff, decide_eq_true_eq, beq_iff_eq, ← Gauss.enc_nonneg_iff, ← bnd_at]
  pointwise []
  rw [ofBool_iff, decide_eq_true_eq]
  rfl

theorem rowOn_iff {r : ℕ} (h : r < 8) : rowOn (flgOf G) r = true ↔ ∃ c, (gk G ⟨r, h⟩ c).Seen := by
  unfold rowOn
  rw [dif_pos h, beq_iff_eq, ← flg_pos_iff]
  pointwise []
  rw [ofBool_iff, decide_eq_true_eq]
  rfl

theorem drawn_step (n : ℕ) (hn : n ≤ 8) : sel (bndOf G) (flgOf G) n = (List.range (n * 256)).filter (seenB G) := by
  induction n with
  | zero => rfl
  | succ n ih =>
    rw [sel_succ, ih (by omega), Nat.succ_mul, List.range_add, List.filter_append]
    congr 1
    have hrow : rowSel (bndOf G) n 256 = ((List.range 256).map (n * 256 + ·)).filter (seenB G) := by
      unfold rowSel
      refine List.filter_congr (fun k hk => pass_eq G ?_)
      obtain ⟨c, hc, rfl⟩ := List.mem_map.1 hk
      have := List.mem_range.1 hc
      omega
    by_cases h : rowOn (flgOf G) n = true
    · rw [if_pos h, hrow]
    · rw [if_neg h, eq_comm, List.filter_eq_nil_iff]
      intro k hk hs
      obtain ⟨c, hc, rfl⟩ := List.mem_map.1 hk
      have hc' := List.mem_range.1 hc
      refine h ((rowOn_iff G (by omega)).2 ⟨⟨c, hc'⟩, ?_⟩)
      unfold seenB at hs
      rw [gN_of_lt G (by omega : n * 256 + c < 2048), decide_eq_true_eq] at hs
      unfold gn at hs
      have e1 : hiK ⟨n * 256 + c, by omega⟩ = ⟨n, by omega⟩ := Fin.ext (show (n * 256 + c) / 256 = n by omega)
      have e2 : loK ⟨n * 256 + c, by omega⟩ = ⟨c, hc'⟩ := Fin.ext (show (n * 256 + c) % 256 = c by omega)
      rw [e1, e2] at hs
      exact hs

theorem drawn_eq : drawn G = (List.range 2048).filter (seenB G) := drawn_step G 8 le_rfl

/-! ### One Gaussian at a pixel -/

section Pixel
variable (i : grid0.Coords)

/-- The block's first row. -/
def top : ℤ := 96 * ((i 0).val : ℤ)

theorem word_top (n : Fin 5) : (IntOp.muli (BitVec.ofNat 32 n.val) 96#32).toInt = 96 * (n.val : ℤ) := by
  revert n; decide

theorem pay2_at : k0_pay2 (F := Ideal) i = (((top i : ℤ) : ℝ) : EReal) := by
  have h : (Scalar.muli (BitVec.ofNat 32 (i 0).val) 96#32).toInt = top i := word_top (i 0)
  pointwise [k0_pay2]
  exact congrArg (fun z : ℤ => ((z : ℝ) : EReal)) h

theorem toInt_small {n : ℕ} (h : n < 1000) : (BitVec.ofNat 32 n).toInt = (n : ℤ) := by
  rw [BitVec.toInt_ofNat', Int.bmod_eq_of_le (by omega) (by omega)]

theorem pay4_at (x : Fin 640) : k0_pay4 (F := Ideal) (ix2 0 x) = ((((x.val : ℤ) : ℤ) : ℝ) : EReal) := by
  pointwise [k0_pay4]
  exact congrArg (fun z : ℤ => ((z : ℝ) : EReal)) (toInt_small (by omega))

theorem pay5_at (r : Fin 96) : k0_pay5 (F := Ideal) i (ix2 r 0) = (((top i + (r.val : ℤ) : ℤ) : ℝ) : EReal) := by
  pointwise [k0_pay5]
  rw [pay2_at]
  have h : FloatOps.sitofp (F := Ideal) .f32 (BitVec.ofNat 32 r.val) = (((r.val : ℤ) : ℝ) : EReal) :=
    congrArg (fun z : ℤ => ((z : ℝ) : EReal)) (toInt_small (by omega))
  rw [h, ← EReal.coe_add]
  congr 1
  push_cast
  rfl

theorem am_at (k : Fin 2048) (t : S96x640.Idx → EReal) (r : Fin 96) (x : Fin 640) :
    k0_pay49 (F := Ideal) (k0_pay4 (F := Ideal)) (k0_pay5 (F := Ideal) i) (rowT (tblOf G) k.val) t (ix2 r x)
      = (gn G k).kam (((x.val : ℤ) : ℝ) : EReal) (((top i + (r.val : ℤ) : ℤ) : ℝ) : EReal) (t (ix2 r x)) := by
  pointwise [k0_pay49, rowT]
  rw [tblV_0, tblV_1, tblV_2, tblV_3, tblV_4, tblV_5, tblV_6, tblV_7, pay4_at, pay5_at]
  rw [sel_iff (p := _ ∧ _) ((bit_and _ _).trans (and_congr ((ofBool_iff _).trans decide_eq_true_iff) ((ofBool_iff _).trans decide_eq_true_iff))),
    sel_iff (p := _ ∧ _) ((bit_and _ _).trans (and_congr ((ofBool_iff _).trans decide_eq_true_iff) ((ofBool_iff _).trans decide_eq_true_iff)))]
  unfold Gauss.kam
  split_ifs <;> simp

theorem extui_ne (b : BitVec 1) : Scalar.cmpi .ne (Scalar.extui b : BitVec 32) 0#32 = 1#1 ↔ b = 1#1 := by
  rcases BitVec.eq_zero_or_eq_one b with rfl | rfl <;> decide

theorem meets_iff (k : Fin 2048) (h : (gn G k).Seen) : meets (F := Ideal) i (bndOf G) k.val ↔ top i ≤ (gn G k).cy + (gn G k).rd ∧ (gn G k).cy - (gn G k).rd ≤ top i + 95 := by
  unfold meets encAt
  rw [dif_pos k.isLt]
  pointwise [k0_cond5, k0_pay9, k0_pay8, k0_pay10, k0_pay11, k0_pay3]
  have hfl : ∀ v : EReal, Scalar.floor (F := Ideal) (φ := .f32) v = Ideal.liftRound Int.floor v := fun _ => rfl
  rw [extui_ne, hfl, bndV, pay2_at, Gauss.enc_lo h, Gauss.enc_hi h, w60, w95]
  refine (bit_and _ _).trans (and_congr ((ofBool_iff _).trans ?_) ((ofBool_iff _).trans ?_))
  · rw [decide_eq_true_iff, ← EReal.coe_add, EReal.coe_le_coe_iff]
    push_cast
    rw [add_le_add_iff_right]
    exact_mod_cast Iff.rfl
  · rw [decide_eq_true_iff, ← EReal.coe_add, ← EReal.coe_add, EReal.coe_le_coe_iff]
    push_cast
    rw [add_le_add_iff_right]
    exact_mod_cast Iff.rfl

theorem out_at (p : FVec Ideal S96x640 .f32) (o : S3x96x640.Idx → EReal) (k : Fin 2048) (ch : Fin 3) (r : Fin 96) (x : Fin 640) :
    stack (k0_pay12 (F := Ideal) (rowT (tblOf G) k.val) p (slab o 0)) (k0_pay13 (rowT (tblOf G) k.val) p (slab o 1)) (k0_pay14 (rowT (tblOf G) k.val) p (slab o 2)) (ix3 ch r x)
      = o (ix3 ch r x) + p (ix2 r x) * (gn G k).col ch := by
  have e : ch = 0 ∨ ch = 1 ∨ ch = 2 := by omega
  rcases e with rfl | rfl | rfl
  · pointwise [stack, k0_pay12, slab, rowT]
    rw [tblV_8]; rfl
  · pointwise [stack, k0_pay13, slab, rowT]
    rw [tblV_9]; rfl
  · pointwise [stack, k0_pay14, slab, rowT]
    rw [tblV_10]; rfl

/-- What is left of the light at a pixel, and the picture there. -/
def Inv (ch : Fin 3) (r : Fin 96) (x : Fin 640) (s : (S96x640.Idx → EReal) × (S3x96x640.Idx → EReal)) (v : ℝ × ℝ) : Prop :=
  s.1 (ix2 r x) = ((v.1 : ℝ) : EReal) ∧ s.2 (ix3 ch r x) = ((v.2 : ℝ) : EReal)

variable (hop : ∀ k, (gN G k).op = ((gN G k).op.toReal : EReal)) (hcol : ∀ k ch, (gN G k).col ch = (((gN G k).col ch).toReal : EReal))

/-- The share of Gaussian `k` at a pixel of the block, and its colour. -/
abbrev aAt (y x : ℤ) (k : ℕ) : ℝ := (gN G k).alpha y x
abbrev cAt (ch : Fin 3) (k : ℕ) : ℝ := ((gN G k).col ch).toReal

include hop hcol in
theorem inv_step (ch : Fin 3) (r : Fin 96) (x : Fin 640) (s : (S96x640.Idx → EReal) × (S3x96x640.Idx → EReal)) (v : ℝ × ℝ)
    (h : Inv ch r x s v) (k : ℕ) (hk : k < 2048) (hs : (gN G k).Seen) :
    Inv ch r x (gstep (F := Ideal) i (tblOf G) (bndOf G) s k) (thru (aAt G (top i + (r.val : ℤ)) (x.val : ℤ)) (cAt G ch) v k) := by
  have e := gN_of_lt G hk
  unfold gstep
  by_cases hm : meets (F := Ideal) i (bndOf G) k
  · rw [if_pos hm]
    have ham : k0_pay49 (F := Ideal) (k0_pay4 (F := Ideal)) (k0_pay5 (F := Ideal) i) (rowT (tblOf G) k) s.1 (ix2 r x)
        = ((aAt G (top i + (r.val : ℤ)) (x.val : ℤ) k * v.1 : ℝ) : EReal) := by
      rw [am_at G i ⟨k, hk⟩, ← e, h.1, Gauss.kam_eq (hop k) _ _ (by omega)]
    constructor
    · show k0_pay50 (F := Ideal) _ _ _ _ _ _ = _
      pointwise [k0_pay50]
      rw [ham, h.1, ← EReal.coe_sub]
      rfl
    · refine (out_at G _ s.2 ⟨k, hk⟩ ch r x).trans ?_
      rw [ham, h.2, ← e, hcol k ch, ← EReal.coe_mul, ← EReal.coe_add]
      rfl
  · rw [if_neg hm]
    rw [meets_iff G i ⟨k, hk⟩ (e ▸ hs), ← e] at hm
    have h0 : aAt G (top i + (r.val : ℤ)) (x.val : ℤ) k = 0 := Gauss.alpha_far _ _ (by omega)
    have hv : thru (aAt G (top i + (r.val : ℤ)) (x.val : ℤ)) (cAt G ch) v k = v := by
      unfold thru
      rw [h0]
      simp
    rw [hv]
    exact h

include hop hcol in
theorem inv_fold (ch : Fin 3) (r : Fin 96) (x : Fin 640) (L : List ℕ) : (∀ k ∈ L, k < 2048 ∧ (gN G k).Seen) →
    ∀ (s : (S96x640.Idx → EReal) × (S3x96x640.Idx → EReal)) (v : ℝ × ℝ), Inv ch r x s v →
      Inv ch r x (L.foldl (gstep (F := Ideal) i (tblOf G) (bndOf G)) s) (L.foldl (thru (aAt G (top i + (r.val : ℤ)) (x.val : ℤ)) (cAt G ch)) v) := by
  induction L with
  | nil => intro _ s v h; exact h
  | cons k L ih =>
    intro hL s v h
    rw [List.foldl_cons, List.foldl_cons]
    exact ih (fun j hj => hL j (List.mem_cons_of_mem _ hj)) _ _
      (inv_step G i hop hcol ch r x s v h k (hL k List.mem_cons_self).1 (hL k List.mem_cons_self).2)

include hop hcol in
/-- The kernel's block at a pixel is the back-to-front blend of all Gaussians. -/
theorem block_at (ch : Fin 3) (r : Fin 96) (x : Fin 640) :
    blockOf (F := Ideal) i G (ix3 ch r x)
      = (((List.range 2048).foldl (over (aAt G (top i + (r.val : ℤ)) (x.val : ℤ)) (cAt G ch)) 0 : ℝ) : EReal) := by
  have hmem : ∀ k ∈ (drawn G).reverse, k < 2048 ∧ (gN G k).Seen := by
    intro k hk
    rw [List.mem_reverse, drawn_eq, List.mem_filter] at hk
    exact ⟨List.mem_range.1 hk.1, of_decide_eq_true hk.2⟩
  have h0 : Inv ch r x (k0_pay7 (F := Ideal), k0_pay6 (F := Ideal)) (1, 0) := by
    constructor
    · show k0_pay7 (F := Ideal) (ix2 r x) = _
      pointwise [k0_pay7]
      rfl
    · show k0_pay6 (F := Ideal) (ix3 ch r x) = _
      pointwise [k0_pay6]
      rfl
  have h := (inv_fold G i hop hcol ch r x _ hmem _ _ h0).2
  unfold blockOf rast
  rw [List.take_of_length_le (by rw [List.length_reverse])]
  refine h.trans (congrArg _ ?_)
  rw [over_filter _ _ (seenB G) (List.range 2048) (fun k _ hk => Gauss.alpha_unseen (of_decide_eq_false hk) _ _), ← drawn_eq, over_eq_thru, zero_mul, zero_add]
end Pixel

end Cert.KernelIdeal.Hand

end
-- ==== Proof.KIValue.lean ====
/- The kernel's inputs as the host leaves them, and its image. -/
module

public import proofs.«01_k».proof.Proof.KIBody
public import proofs.«01_k».proof.Proof.Scene
public import proofs.«01_k».proof.Proof.KIPix
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.SplatIdeal Cert.Scene
open Idealize.ShloMosaic

open Idealize.ShloMosaic.TcCoe
open Idealize.ShloMosaic.Pipeline (Dat)

variable (m : (ℓ : Loc nD τ sig) → Buf (Elt Ideal) ℓ)

/-- The points before the camera. -/
def camOf (p : FVec Ideal S2048x3 .f32) (q : FVec Ideal S4x4 .f32) : FVec Ideal S2048x3 .f32 :=
  Host.dotGeneral dot_S2048x3_S3x3_S2048x3_1_0_0_1_n_n none
    (subf p (broadcastInDim S2048x3 ![0, 1] bcast_S1x3_S2048x3_0_1 (broadcastInDim S1x3 ![1] bcast_S3_S1x3_1
      (shapeCast S3 (extractStridedSlice S3x1 ![0, 3] q slices_S4x4_S3x1_0_3) shapeCasts_S3x1_S3))))
    (transpose S3x3 [1, 0] (extractStridedSlice S3x3 ![0, 0] q slices_S4x4_S3x3_0_0) transposes_S3x3_S3x3_1_0)

theorem V_cam (c : Dev nD) : V m c main_v7 = camOf (m ((c.tc : Thread nD τ).loc main_arg0)) (m ((c.tc : Thread nD τ).loc main_arg5)) := by
  entry_read
  rfl

/-- The kernel's inputs. -/
def inputs (p : FVec Ideal S2048x3 .f32) (sc : FVec Ideal S2048x3 .f32) (co : FVec Ideal S2048x3 .f32) (op : FVec Ideal S2048 .f32) (q : FVec Ideal S4x4 .f32) : FVec Ideal S10x8x256 .f32 :=
  shapeCast S10x8x256 (concatenate S10x2048 0 [⟨S3x2048, transpose S3x2048 [1, 0] (camOf p q) transposes_S2048x3_S3x2048_1_0⟩,
    ⟨S3x2048, transpose S3x2048 [1, 0] sc transposes_S2048x3_S3x2048_1_0⟩, ⟨S3x2048, transpose S3x2048 [1, 0] co transposes_S2048x3_S3x2048_1_0⟩,
    ⟨S1x2048, broadcastInDim S1x2048 ![1] bcast_S2048_S1x2048_1 op⟩] concatenates_S3x2048_S3x2048_S3x2048_S1x2048_S10x2048_d0) shapeCasts_S10x2048_S10x8x256

/-- The host's operations before it joins the inputs. -/
abbrev ops12 {F : FTy → Type} [FloatOps F] : List (HloOp τ sig (Elt F)) :=
  [ StableHlo.unary main_arg5 main_v0 ((extractStridedSlice S3x3 ![0, 0] · slices_S4x4_S3x3_0_0) : (⟨S4x4, .f32⟩ : BufTy).Contents (Elt F) → (⟨S3x3, .f32⟩ : BufTy).Contents (Elt F)),
    StableHlo.unary main_arg5 main_v1 ((extractStridedSlice S3x1 ![0, 3] · slices_S4x4_S3x1_0_3) : (⟨S4x4, .f32⟩ : BufTy).Contents (Elt F) → (⟨S3x1, .f32⟩ : BufTy).Contents (Elt F)),
    StableHlo.reshape main_v1 main_v2 (rfl : (.f32 : EltTy) = .f32) shapeCasts_S3x1_S3,
    StableHlo.unary main_v2 main_v3 (broadcastInDim S1x3 ![1] bcast_S3_S1x3_1 : (⟨S3, .f32⟩ : BufTy).Contents (Elt F) → (⟨S1x3, .f32⟩ : BufTy).Contents (Elt F)),
    StableHlo.unary main_v3 main_v4 (broadcastInDim S2048x3 ![0, 1] bcast_S1x3_S2048x3_0_1 : (⟨S1x3, .f32⟩ : BufTy).Contents (Elt F) → (⟨S2048x3, .f32⟩ : BufTy).Contents (Elt F)),
    StableHlo.binary main_arg0 main_v4 main_v5 (subf : (⟨S2048x3, .f32⟩ : BufTy).Contents (Elt F) → (⟨S2048x3, .f32⟩ : BufTy).Contents (Elt F) → (⟨S2048x3, .f32⟩ : BufTy).Contents (Elt F)),
    StableHlo.unary main_v0 main_v6 ((transpose S3x3 [1, 0] · transposes_S3x3_S3x3_1_0) : (⟨S3x3, .f32⟩ : BufTy).Contents (Elt F) → (⟨S3x3, .f32⟩ : BufTy).Contents (Elt F)),
    StableHlo.binary main_v5 main_v6 main_v7 ((fun l r => Host.dotGeneral dot_S2048x3_S3x3_S2048x3_1_0_0_1_n_n none l r) : (⟨S2048x3, .f32⟩ : BufTy).Contents (Elt F) → (⟨S3x3, .f32⟩ : BufTy).Contents (Elt F) → (⟨S2048x3, .f32⟩ : BufTy).Contents (Elt F)),
    StableHlo.unary main_v7 main_v8 ((transpose S3x2048 [1, 0] · transposes_S2048x3_S3x2048_1_0) : (⟨S2048x3, .f32⟩ : BufTy).Contents (Elt F) → (⟨S3x2048, .f32⟩ : BufTy).Contents (Elt F)),
    StableHlo.unary main_arg1 main_v9 ((transpose S3x2048 [1, 0] · transposes_S2048x3_S3x2048_1_0) : (⟨S2048x3, .f32⟩ : BufTy).Contents (Elt F) → (⟨S3x2048, .f32⟩ : BufTy).Contents (Elt F)),
    StableHlo.unary main_arg3 main_v10 ((transpose S3x2048 [1, 0] · transposes_S2048x3_S3x2048_1_0) : (⟨S2048x3, .f32⟩ : BufTy).Contents (Elt F) → (⟨S3x2048, .f32⟩ : BufTy).Contents (Elt F)),
    StableHlo.unary main_arg4 main_v11 (broadcastInDim S1x2048 ![1] bcast_S2048_S1x2048_1 : (⟨S2048, .f32⟩ : BufTy).Contents (Elt F) → (⟨S1x2048, .f32⟩ : BufTy).Contents (Elt F)) ]

/-- The host's operations that join the inputs. -/
abbrev ops2 {F : FTy → Type} [FloatOps F] : List (HloOp τ sig (Elt F)) :=
  [ StableHlo.nary ![main_v8, main_v9, main_v10, main_v11] main_v12 (fun u => (concatenate S10x2048 0 [⟨S3x2048, (u 0 : (⟨S3x2048, .f32⟩ : BufTy).Contents (Elt F))⟩, ⟨S3x2048, (u 1 : (⟨S3x2048, .f32⟩ : BufTy).Contents (Elt F))⟩, ⟨S3x2048, (u 2 : (⟨S3x2048, .f32⟩ : BufTy).Contents (Elt F))⟩, ⟨S1x2048, (u 3 : (⟨S1x2048, .f32⟩ : BufTy).Contents (Elt F))⟩] concatenates_S3x2048_S3x2048_S3x2048_S1x2048_S10x2048_d0 : (⟨S10x2048, .f32⟩ : BufTy).Contents (Elt F))),
    StableHlo.reshape main_v12 main_v13 (rfl : (.f32 : EltTy) = .f32) shapeCasts_S10x2048_S10x8x256 ]

theorem after_both {F : FTy → Type} (a b : List (HloOp τ sig (Elt F))) (σ : Valuation τ sig (Elt F)) :
    StableHlo.after (a ++ b) σ = StableHlo.after b (StableHlo.after a σ) := by
  induction a generalizing σ with
  | nil => rfl
  | cons x xs ih => exact ih _

theorem hostOps_eq {F : FTy → Type} [FloatOps F] : (hostOps0 : List (HloOp τ sig (Elt F))) = ops12 ++ ops2 := rfl

/-- What joining leaves in the kernel's input. -/
theorem join_read (σ : Valuation τ sig (Elt Ideal)) : StableHlo.after (ops2 (F := Ideal)) σ main_v13 =
    shapeCast S10x8x256 (concatenate S10x2048 0 [⟨S3x2048, σ main_v8⟩, ⟨S3x2048, σ main_v9⟩, ⟨S3x2048, σ main_v10⟩, ⟨S1x2048, σ main_v11⟩]
      concatenates_S3x2048_S3x2048_S3x2048_S1x2048_S10x2048_d0) shapeCasts_S10x2048_S10x8x256 := by
  unfold ops2
  rw [StableHlo.after_cons, StableHlo.after_cons, StableHlo.after_nil, StableHlo.reshape_result, StableHlo.nary_result]
  rfl

theorem V_inputs (c : Dev nD) : V m c main_v13 = inputs (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5)) := by
  have h8 : StableHlo.after (ops12 (F := Ideal)) (fun b => m (c, b)) main_v8 = transpose S3x2048 [1, 0] (camOf (m ((c.tc : Thread nD τ).loc main_arg0)) (m ((c.tc : Thread nD τ).loc main_arg5))) transposes_S2048x3_S3x2048_1_0 := by
    unfold ops12
    entry_read
    rfl
  have h9 : StableHlo.after (ops12 (F := Ideal)) (fun b => m (c, b)) main_v9 = transpose S3x2048 [1, 0] (m ((c.tc : Thread nD τ).loc main_arg1)) transposes_S2048x3_S3x2048_1_0 := by
    unfold ops12
    entry_read
    rfl
  have h10 : StableHlo.after (ops12 (F := Ideal)) (fun b => m (c, b)) main_v10 = transpose S3x2048 [1, 0] (m ((c.tc : Thread nD τ).loc main_arg3)) transposes_S2048x3_S3x2048_1_0 := by
    unfold ops12
    entry_read
    rfl
  have h11 : StableHlo.after (ops12 (F := Ideal)) (fun b => m (c, b)) main_v11 = broadcastInDim S1x2048 ![1] bcast_S2048_S1x2048_1 (m ((c.tc : Thread nD τ).loc main_arg4)) := by
    unfold ops12
    entry_read
    rfl
  unfold V
  rw [hostOps_eq, after_both, join_read, h8, h9, h10, h11]
  rfl

section
variable (p : FVec Ideal S2048x3 .f32) (sc : FVec Ideal S2048x3 .f32) (co : FVec Ideal S2048x3 .f32) (op : FVec Ideal S2048 .f32) (q : FVec Ideal S4x4 .f32) (k : Fin 2048)

theorem place (k : Fin 2048) (h) : (⟨k.val / 256 * 256 + k.val % 256, h⟩ : Fin 2048) = k := Fin.ext (by show k.val / 256 * 256 + k.val % 256 = k.val; omega)

theorem in_0 : inputs p sc co op q (ValueIdx.ix3 0 (hiK k) (loK k)) = camOf p q (ValueIdx.ix2 k 0) := by
  have h : inputs p sc co op q (ix3 0 (hiK k) (loK k)) = camOf p q (ix2 k 0) := by
    pointwise [inputs]
    simp only [place]
  exact h
theorem in_1 : inputs p sc co op q (ValueIdx.ix3 1 (hiK k) (loK k)) = camOf p q (ValueIdx.ix2 k 1) := by
  have h : inputs p sc co op q (ix3 1 (hiK k) (loK k)) = camOf p q (ix2 k 1) := by
    pointwise [inputs]
    simp only [place]
  exact h
theorem in_2 : inputs p sc co op q (ValueIdx.ix3 2 (hiK k) (loK k)) = camOf p q (ValueIdx.ix2 k 2) := by
  have h : inputs p sc co op q (ix3 2 (hiK k) (loK k)) = camOf p q (ix2 k 2) := by
    pointwise [inputs]
    simp only [place]
  exact h
theorem in_3 : inputs p sc co op q (ValueIdx.ix3 3 (hiK k) (loK k)) = sc (ValueIdx.ix2 k 0) := by
  have h : inputs p sc co op q (ix3 3 (hiK k) (loK k)) = sc (ix2 k 0) := by
    pointwise [inputs]
    simp only [place]
  exact h
theorem in_4 : inputs p sc co op q (ValueIdx.ix3 4 (hiK k) (loK k)) = sc (ValueIdx.ix2 k 1) := by
  have h : inputs p sc co op q (ix3 4 (hiK k) (loK k)) = sc (ix2 k 1) := by
    pointwise [inputs]
    simp only [place]
  exact h
theorem in_5 : inputs p sc co op q (ValueIdx.ix3 5 (hiK k) (loK k)) = sc (ValueIdx.ix2 k 2) := by
  have h : inputs p sc co op q (ix3 5 (hiK k) (loK k)) = sc (ix2 k 2) := by
    pointwise [inputs]
    simp only [place]
  exact h
theorem in_6 : inputs p sc co op q (ValueIdx.ix3 6 (hiK k) (loK k)) = co (ValueIdx.ix2 k 0) := by
  have h : inputs p sc co op q (ix3 6 (hiK k) (loK k)) = co (ix2 k 0) := by
    pointwise [inputs]
    simp only [place]
  exact h
theorem in_7 : inputs p sc co op q (ValueIdx.ix3 7 (hiK k) (loK k)) = co (ValueIdx.ix2 k 1) := by
  have h : inputs p sc co op q (ix3 7 (hiK k) (loK k)) = co (ix2 k 1) := by
    pointwise [inputs]
    simp only [place]
  exact h
theorem in_8 : inputs p sc co op q (ValueIdx.ix3 8 (hiK k) (loK k)) = co (ValueIdx.ix2 k 2) := by
  have h : inputs p sc co op q (ix3 8 (hiK k) (loK k)) = co (ix2 k 2) := by
    pointwise [inputs]
    simp only [place]
  exact h
theorem in_9 : inputs p sc co op q (ValueIdx.ix3 9 (hiK k) (loK k)) = op (ValueIdx.ix1 k) := by
  have h : inputs p sc co op q (ix3 9 (hiK k) (loK k)) = op (ix1 k) := by
    pointwise [inputs]
    simp only [place]
  exact h

end

/-- The kernel's inputs hold the scene of the arguments. -/
theorem gN_inputs (p : FVec Ideal S2048x3 .f32) (sc : FVec Ideal S2048x3 .f32) (co : FVec Ideal S2048x3 .f32) (op : FVec Ideal S2048 .f32) (q : FVec Ideal S4x4 .f32) (k : ℕ) :
    gN (inputs p sc co op q) k = sceneOf (fun n a => camOf p q (ValueIdx.ix2 n a)) (fun n a => sc (ValueIdx.ix2 n a)) (fun n a => co (ValueIdx.ix2 n a)) (fun n => op (ValueIdx.ix1 n)) k := by
  unfold gN gn gk sceneOf
  simp only [in_0, in_1, in_2, in_3, in_4, in_5, in_9]
  congr 1
  funext ch
  fin_cases ch
  · exact in_6 p sc co op q _
  · exact in_7 p sc co op q _
  · exact in_8 p sc co op q _

theorem index_0 (a : Fin 3) : win0_0.index pt0 a = 0 := by revert a; decide +kernel
theorem index_1 (t : Fin cfg0.N) : win0_1.index t 0 = 0 ∧ win0_1.index t 1 = t.val ∧ win0_1.index t 2 = 0 := by
  revert t; decide +kernel
theorem coord (t : Fin cfg0.N) : (grid0.coords t 0).val = t.val := by revert t; decide +kernel

theorem gin_eq (c : Dev nD) : gin m c = V m c main_v13 := by
  funext y
  unfold gin
  blk_ext [iblk]
  · rw [index_0]; omega
  · rw [index_0]; omega
  · rw [index_0]; omega

/-- The image the kernel leaves. -/
theorem image_eq (c : Dev nD) (hop : ∀ k, (gN (gin m c) k).op = ((gN (gin m c) k).op.toReal : EReal))
    (hcol : ∀ k ch, (gN (gin m c) k).col ch = (((gN (gin m c) k).col ch).toReal : EReal)) :
    (dats m 0 c).arrAt 1 (cfgs 0).N = (fun j : S3x480x640.Idx => (picture (gN (gin m c)) (j 0) ((j 1).val : ℤ) ((j 2).val : ℤ) : EReal)) := by
  refine (dats m 0 c).arrAt_eq_of_covers 1 _ (by decide +kernel) fun t hf y => ?_
  blk_simp
  rw [after0_1]
  obtain ⟨h0, h1, h2⟩ := index_1 t
  have e0 : ((win0_1.blk t).view.emb y 0 : Fin 3) = (y 0 : Fin 3) := Fin.ext (by
    blk_simp
    rw [h0]; omega)
  have hy : (y : S3x96x640.Idx) = ix3 (y 0) (y 1) (y 2) := eq_ix3 y
  have hb := block_at (gin m c) (grid0.coords t) hop hcol (y 0) (y 1) (y 2)
  have ht : top (grid0.coords t) = 96 * (t.val : ℤ) := by unfold top; rw [coord]
  rw [ht] at hb
  refine ((congrArg (blockOf (grid0.coords t) (gin m c)) hy).trans hb).trans ?_
  unfold picture
  have e1 : ((win0_1.index t 1 * 96 + (y 1).val : ℕ) : ℤ) = 96 * (t.val : ℤ) + ((y 1).val : ℤ) := by rw [h1]; push_cast; ring
  have e2 : ((win0_1.index t 2 * 640 + (y 2).val : ℕ) : ℤ) = ((y 2).val : ℤ) := by rw [h2]; push_cast; ring
  rw [e0, e1, e2]

end Cert.KernelIdeal.Hand

end
-- ==== Proof.RefTab.lean ====
/- What the reference computes of each Gaussian before its loop. -/
module

public import proofs.«01_k».proof.Proof.Gen.ReferenceIdeal.Step
public import proofs.«01_k».proof.Proof.Scene
public import Idealize.ShloMosaic.Lib.Pointwise
public import Idealize.ShloMosaic.Lib.WordArith

@[expose] public section

set_option maxRecDepth 16384

noncomputable section

namespace Cert.ReferenceIdeal.RefVal

open Cert.ReferenceIdeal Cert.ReferenceIdeal.Gen Cert.ReferenceIdeal.Step Cert.Scene
open Idealize.ShloMosaic

variable (p sc co : FVec Ideal S2048x3 .f32) (op : FVec Ideal S2048 .f32) (q : FVec Ideal S4x4 .f32)

/-- The scene of the reference's arguments. -/
def refScene (k : ℕ) : Gauss :=
  sceneOf (fun n a => A_main_v15 (F := Ideal) p sc q (ix2 n a)) (fun n a => sc (ix2 n a)) (fun n a => co (ix2 n a)) (fun n => op (ix1 n)) k

variable (n : Fin 2048)

/-! ### The entries of the set-up arrays -/

theorem depth_at : A_main_v20 (F := Ideal) p sc q (ix1 n) = depth (A_main_v15 (F := Ideal) p sc q (ix2 n 2)) := by
  pointwise [A_main_v20, A_main_v18, A_main_v17, A_main_v16, K_main_v19, K_main_cst]
  rfl

theorem sx_at : A_main_v27 (F := Ideal) p sc q (ix1 n) = proj (A_main_v15 (F := Ideal) p sc q (ix2 n 0)) (A_main_v15 (F := Ideal) p sc q (ix2 n 2)) 0x43A00000#32 := by
  pointwise [A_main_v27, A_main_v25, A_main_v24, A_main_v22, A_main_v21, A_main_v20, A_main_v18, A_main_v17, A_main_v16, K_main_v19, K_main_cst, K_main_v23, K_main_cst_1, K_main_v26, K_main_cst_2]
  rfl

theorem sy_at : A_main_v34 (F := Ideal) p sc q (ix1 n) = proj (A_main_v15 (F := Ideal) p sc q (ix2 n 1)) (A_main_v15 (F := Ideal) p sc q (ix2 n 2)) 0x43700000#32 := by
  pointwise [A_main_v34, A_main_v32, A_main_v31, A_main_v29, A_main_v28, A_main_v20, A_main_v18, A_main_v17, A_main_v16, K_main_v19, K_main_cst, K_main_v30, K_main_cst_3, K_main_v33, K_main_cst_4]
  rfl

theorem one_word : Ideal.ofBits .f32 0x3F800000#32 = 1 := by
  simp [Ideal.ofBits, Ideal.ieee, -EReal.coe_mul]
  norm_num

theorem ss_at : A_main_v52 (F := Ideal) p sc q (ix1 n) = size (sc (ix2 n 0) + sc (ix2 n 1) + sc (ix2 n 2)) (A_main_v15 (F := Ideal) p sc q (ix2 n 2)) := by
  pointwise [A_main_v52, A_main_call0_v2, A_main_v51, A_main_v50, A_main_v48, A_main_v46, A_main_v20, A_main_v18, A_main_v17, A_main_v16, K_main_v19, K_main_cst, K_main_cst_9, K_main_v47, K_main_cst_10, K_main_v49, K_main_cst_11, K_main_call0_v1, K_main_call0_v0, K_main_cst_12, K_main_call0_v4, K_main_call0_v3, K_main_cst_13]
  rw [Fin.sum_univ_three, show (id (constant (F := Ideal) S_ FTy.f32 1065353216#32) ix0 : EReal) = 1 from one_word]
  rfl

theorem valid_at : A_main_v45 (F := Ideal) p sc q (ix1 n) = 1#1 ↔
    (0 ≤ A_main_v27 (F := Ideal) p sc q (ix1 n) ∧ A_main_v27 (F := Ideal) p sc q (ix1 n) < ((640 : ℝ) : EReal))
      ∧ 0 ≤ A_main_v34 (F := Ideal) p sc q (ix1 n) ∧ A_main_v34 (F := Ideal) p sc q (ix1 n) < ((480 : ℝ) : EReal) := by
  pointwise [A_main_v45, A_main_v44, A_main_v42, A_main_v41, A_main_v39, A_main_v38, A_main_v36, K_main_v35, K_main_cst_5, K_main_v37, K_main_cst_6, K_main_v40, K_main_cst_7, K_main_v43, K_main_cst_8]
  simp only [bit_and, ofBool_iff, decide_eq_true_eq, w640, w480]
  exact and_assoc

/-- A small whole number as a word. -/
theorem word_of {z : ℤ} (h0 : 0 ≤ z) (h1 : z ≤ 639) : (Ideal.fptosi 32 (((z : ℝ)) : EReal)).toInt = z := by
  unfold Ideal.fptosi
  rw [Ideal.toIntClamped_coe, if_pos (by exact_mod_cast h0), Int.floor_intCast, min_eq_right (by norm_num; omega), max_eq_right (by norm_num; omega),
    BitVec.toInt_ofInt_eq_self (by norm_num) (by norm_num; omega) (by norm_num; omega)]

theorem clamp_toInt (hi x : BitVec 32) (h : 0 ≤ hi.toInt) :
    (IntOp.minsi hi (IntOp.maxsi 0#32 x)).toInt = min hi.toInt (max 0 x.toInt) := by
  have e := WordArith.toInt_maxsi_zero x
  generalize IntOp.maxsi 0#32 x = y at e
  rw [← e]
  unfold IntOp.minsi
  split_ifs with hs
  · rw [BitVec.slt_iff_toInt_lt] at hs; omega
  · rw [BitVec.slt_iff_toInt_lt] at hs; omega

theorem xi_at : (A_main_v59 (F := Ideal) p sc q (ix1 n)).toInt
    = min 639 (max 0 (Ideal.fptosi 32 (Ideal.liftRound Int.floor (A_main_v27 (F := Ideal) p sc q (ix1 n)))).toInt) := by
  pointwise [A_main_v59, A_main_call1_v2, A_main_v58, A_main_v57, K_main_call1_v4, K_main_call1_v3, K_main_c_16, K_main_call1_v1, K_main_call1_v0, K_main_c_15]
  exact clamp_toInt 639#32 _ (by decide)

theorem yi_at : (A_main_v62 (F := Ideal) p sc q (ix1 n)).toInt
    = min 479 (max 0 (Ideal.fptosi 32 (Ideal.liftRound Int.floor (A_main_v34 (F := Ideal) p sc q (ix1 n)))).toInt) := by
  pointwise [A_main_v62, A_main_call2_v2, A_main_v61, A_main_v60, K_main_call2_v4, K_main_call2_v3, K_main_c_18, K_main_call2_v1, K_main_call2_v0, K_main_c_17]
  exact clamp_toInt 479#32 _ (by decide)

theorem rd_at : A_main_v56 (F := Ideal) p sc q (ix1 n)
    = Ideal.fptosi 32 (Ideal.liftRound Int.floor (A_main_v52 (F := Ideal) p sc q (ix1 n) * Ideal.ofBits .f32 0x40400000#32)) := by
  pointwise [A_main_v56, A_main_v55, A_main_v54, K_main_v53, K_main_cst_14]
  rfl

/-! ### The set-up arrays and the scene -/

/-- What the loop's state holds of a scene's Gaussian. -/
structure HoldsG (s : State Ideal) (n : Fin 2048) (g : Gauss) : Prop where
  sx : s.main_v64_0 (ix1 n) = g.sx
  sy : s.main_v64_1 (ix1 n) = g.sy
  ss : s.main_v64_5 (ix1 n) = g.ss
  op : s.main_v64_6 (ix1 n) = g.op
  col : ∀ ch : Fin 3, s.main_v64_7 (ix2 n ch) = g.col ch
  ok : (s.main_v64_8 (ix1 n) : BitVec 1) = 1#1 ↔ g.Seen
  rd : (s.main_v64_4 (ix1 n) : BitVec 32).toInt = g.rd
  xi : 0 ≤ (s.main_v64_2 (ix1 n) : BitVec 32).toInt ∧ (s.main_v64_2 (ix1 n) : BitVec 32).toInt ≤ 639
  yi : 0 ≤ (s.main_v64_3 (ix1 n) : BitVec 32).toInt ∧ (s.main_v64_3 (ix1 n) : BitVec 32).toInt ≤ 479
  cx : g.Seen → (s.main_v64_2 (ix1 n) : BitVec 32).toInt = g.cx
  cy : g.Seen → (s.main_v64_3 (ix1 n) : BitVec 32).toInt = g.cy

theorem holds_init : HoldsG (init (F := Ideal) op co p sc q) n (refScene p sc co op q n.val) := by
  have hn : (⟨n.val % 2048, Nat.mod_lt _ (by norm_num)⟩ : Fin 2048) = n := Fin.ext (Nat.mod_eq_of_lt n.isLt)
  have esx : A_main_v27 (F := Ideal) p sc q (ix1 n) = (refScene p sc co op q n.val).sx := by
    rw [sx_at]; unfold refScene sceneOf gaussOf; dsimp only; rw [hn]
  have esy : A_main_v34 (F := Ideal) p sc q (ix1 n) = (refScene p sc co op q n.val).sy := by
    rw [sy_at]; unfold refScene sceneOf gaussOf; dsimp only; rw [hn]
  have ess : A_main_v52 (F := Ideal) p sc q (ix1 n) = (refScene p sc co op q n.val).ss := by
    rw [ss_at]; unfold refScene sceneOf gaussOf; dsimp only; rw [hn]
  constructor
  · exact esx
  · exact esy
  · exact ess
  · show op (ix1 n) = _
    unfold refScene sceneOf gaussOf; dsimp only; rw [hn]
  · intro ch
    show co (ix2 n ch) = _
    unfold refScene sceneOf gaussOf; dsimp only; rw [hn]
  · show A_main_v45 (F := Ideal) p sc q (ix1 n) = 1#1 ↔ _
    rw [valid_at, esx, esy]
    unfold Gauss.Seen
    tauto
  · show (A_main_v56 (F := Ideal) p sc q (ix1 n)).toInt = _
    rw [rd_at, ess]
    have := (refScene p sc co op q n.val).rad_eq
    unfold Gauss.rad at this
    rw [this]
    have hr := (refScene p sc co op q n.val).rd_le
    exact word_of (by omega) (by omega)
  · show 0 ≤ (A_main_v59 (F := Ideal) p sc q (ix1 n)).toInt ∧ (A_main_v59 (F := Ideal) p sc q (ix1 n)).toInt ≤ 639
    rw [xi_at]; omega
  · show 0 ≤ (A_main_v62 (F := Ideal) p sc q (ix1 n)).toInt ∧ (A_main_v62 (F := Ideal) p sc q (ix1 n)).toInt ≤ 479
    rw [yi_at]; omega
  · intro h
    show (A_main_v59 (F := Ideal) p sc q (ix1 n)).toInt = _
    have hb := Gauss.cx_bounds h
    rw [xi_at, esx, Gauss.sx_eq h, Ideal.liftRound_coe]
    have := word_of hb.1 hb.2
    unfold Gauss.cx at *
    rw [this]; omega
  · intro h
    show (A_main_v62 (F := Ideal) p sc q (ix1 n)).toInt = _
    have hb := Gauss.cy_bounds h
    rw [yi_at, esy, Gauss.sy_eq h, Ideal.liftRound_coe]
    have := word_of hb.1 (by omega)
    unfold Gauss.cy at *
    rw [this]; omega

end Cert.ReferenceIdeal.RefVal

end
-- ==== Proof.RefStep.lean ====
/- One trip of the reference's loop at a pixel. -/
module

public import proofs.«01_k».proof.Proof.Gen.ReferenceIdeal.Step
public import proofs.«01_k».proof.Proof.RefTab
public import proofs.«01_k».proof.Proof.Scene
public import Idealize.ShloMosaic.Lib.Pointwise
public import Idealize.ShloMosaic.Lib.WordArith
public import Idealize.ShloMosaic.Lib.WordCmp

@[expose] public section

set_option maxRecDepth 16384

noncomputable section

namespace Cert.ReferenceIdeal.RefVal

open Cert.ReferenceIdeal Cert.ReferenceIdeal.Gen Cert.ReferenceIdeal.Step Cert.Scene
open Idealize.ShloMosaic

variable (s : State Ideal) (j : Fin 2048)

/-! ### The trip's own Gaussian -/

theorem start_j (h) (f : Fin 1 → ℤ) (hf : f 0 = (BitVec.ofNat 32 j.val).toInt) : Host.clampedStart S2048 S1 h f 0 = j.val :=
  Host.clampedStart_of_le h f 0 j.val (by rw [hf, WordArith.toInt_ofNat_small _ (by omega)]) (by show j.val + 1 ≤ 2048; omega)

theorem slice_at {α : Type} (X : S2048.Idx → α) (f : Fin 1 → ℤ) (h) (hf : f 0 = (BitVec.ofNat 32 j.val).toInt) :
    Host.dynamicSlice S1 X f h (ix1 0) = X (ix1 j) := by
  unfold Host.dynamicSlice
  refine congrArg X (funext fun a => ?_)
  match a with
  | ⟨0, _⟩ =>
    apply Fin.ext
    have := start_j j h.1 f hf
    show Host.clampedStart S2048 S1 h.1 f 0 + 0 = j.val
    omega

theorem b1_at : b1 (F := Ideal) j.val s ix0 = s.main_v64_0 (ix1 j) := by
  pointwise [b1]
  unfold b0
  exact slice_at j _ _ _ (by rfl)
theorem b3_at : b3 (F := Ideal) j.val s ix0 = s.main_v64_1 (ix1 j) := by
  pointwise [b3]
  unfold b2
  exact slice_at j _ _ _ (by rfl)
theorem b5_at : b5 (F := Ideal) j.val s ix0 = s.main_v64_2 (ix1 j) := by
  pointwise [b5]
  unfold b4
  exact slice_at j _ _ _ (by rfl)
theorem b7_at : b7 (F := Ideal) j.val s ix0 = s.main_v64_3 (ix1 j) := by
  pointwise [b7]
  unfold b6
  exact slice_at j _ _ _ (by rfl)
theorem b9_at : b9 (F := Ideal) j.val s ix0 = s.main_v64_4 (ix1 j) := by
  pointwise [b9]
  unfold b8
  exact slice_at j _ _ _ (by rfl)
theorem b11_at : b11 (F := Ideal) j.val s ix0 = s.main_v64_5 (ix1 j) := by
  pointwise [b11]
  unfold b10
  exact slice_at j _ _ _ (by rfl)
theorem b13_at : b13 (F := Ideal) j.val s ix0 = s.main_v64_6 (ix1 j) := by
  pointwise [b13]
  unfold b12
  exact slice_at j _ _ _ (by rfl)
theorem b18_at : b18 (F := Ideal) j.val s ix0 = s.main_v64_8 (ix1 j) := by
  pointwise [b18]
  unfold b17
  exact slice_at j _ _ _ (by rfl)

theorem slice2_at {α : Type} (ch : Fin 3) (X : S2048x3.Idx → α) (f : Fin 2 → ℤ) (h) (hf : f 0 = (BitVec.ofNat 32 j.val).toInt) (hf' : f 1 = 0) :
    Host.dynamicSlice S1x3 X f h (ix2 0 ch) = X (ix2 j ch) := by
  have h0 : Host.clampedStart S2048x3 S1x3 h.1 f 0 = j.val :=
    Host.clampedStart_of_le h.1 f 0 j.val (by rw [hf, WordArith.toInt_ofNat_small _ (by omega)]) (by show j.val + 1 ≤ 2048; omega)
  have h1 : Host.clampedStart S2048x3 S1x3 h.1 f 1 = 0 :=
    Host.clampedStart_of_le h.1 f 1 0 (by rw [hf']; rfl) (by show 0 + 3 ≤ 3; omega)
  unfold Host.dynamicSlice
  refine congrArg X (funext fun a => ?_)
  match a with
  | ⟨0, _⟩ =>
    apply Fin.ext
    show Host.clampedStart S2048x3 S1x3 h.1 f 0 + 0 = j.val
    omega
  | ⟨1, _⟩ =>
    apply Fin.ext
    show Host.clampedStart S2048x3 S1x3 h.1 f 1 + ch.val = ch.val
    omega

theorem b16_at (ch : Fin 3) : b16 (F := Ideal) j.val s (ix1 ch) = s.main_v64_7 (ix2 j ch) := by
  pointwise [b16]
  unfold b15
  exact slice2_at j ch _ _ _ (by rfl) (by rfl)

variable {s j} {g : Gauss} (h : HoldsG s j g)

/-! ### The pixels of the window -/

theorem off_toInt : ∀ b : Fin 121, (IntOp.addi 4294967236#32 (BitVec.ofNat 32 b.val)).toInt = (b.val : ℤ) - 60 := by decide +kernel
theorem off_abs : ∀ b : Fin 121, (IntOp.absi (IntOp.addi 4294967236#32 (BitVec.ofNat 32 b.val))).toInt = |(b.val : ℤ) - 60| := by decide +kernel

include h

theorem px_at (a b : Fin 121) : (b20 (F := Ideal) j.val s (ix2 a b)).toInt = (s.main_v64_2 (ix1 j) : BitVec 32).toInt + ((b.val : ℤ) - 60) := by
  pointwise [b20, b19, K_main_v7, K_main_v5, K_main_v4, K_main_c_0, K_main_v3]
  rw [b5_at]
  have := h.xi
  have hb := off_toInt b
  refine (WordArith.toInt_add_of_bounds _ _ ?_ ?_).trans ?_ <;> rw [hb] <;> omega

theorem py_at (a b : Fin 121) : (b22 (F := Ideal) j.val s (ix2 a b)).toInt = (s.main_v64_3 (ix1 j) : BitVec 32).toInt + ((a.val : ℤ) - 60) := by
  pointwise [b22, b21, K_main_v6, K_main_v2, K_main_v1, K_main_c, K_main_v0]
  rw [b7_at]
  have := h.yi
  have hb := off_toInt a
  refine (WordArith.toInt_add_of_bounds _ _ ?_ ?_).trans ?_ <;> rw [hb] <;> omega

/-- The window's mask: on the screen, within the radius, and the Gaussian seen. -/
theorem mask_at (a b : Fin 121) (y x : ℤ) (hy : (s.main_v64_3 (ix1 j) : BitVec 32).toInt + ((a.val : ℤ) - 60) = y) (hx : (s.main_v64_2 (ix1 j) : BitVec 32).toInt + ((b.val : ℤ) - 60) = x)
    (y0 : 0 ≤ y) (y1 : y < 480) (x0 : 0 ≤ x) (x1 : x < 640) :
    b47 (F := Ideal) j.val s (ix2 a b) = 1#1 ↔ g.Seen ∧ |x - g.cx| ≤ g.rd ∧ |y - g.cy| ≤ g.rd := by
  pointwise [b47, b46, b45, b44, b43, b42, b41, b40, b39, b38, b37, b36, b35, b34, b33, b32, b31, b30, b29, b28, b27, b26, b25, b24, b23,
    K_main_v7, K_main_v5, K_main_v4, K_main_c_0, K_main_v3, K_main_v6, K_main_v2, K_main_v1, K_main_c, K_main_v0]
  have e0 : (0#32 : BitVec 32).toInt = 0 := rfl
  have e1 : (640#32 : BitVec 32).toInt = 640 := rfl
  have e2 : (480#32 : BitVec 32).toInt = 480 := rfl
  simp only [bit_and, WordCmp.cmpi_sge_eq, WordCmp.cmpi_slt_eq, WordCmp.cmpi_sle_eq, ofBool_iff, decide_eq_true_eq, px_at h, py_at h, off_abs, b9_at, b18_at, h.rd, hy, hx, e0, e1, e2]
  rw [h.ok]
  constructor
  · rintro ⟨⟨_, hb, ha⟩, hs⟩
    have := h.cx hs; have := h.cy hs
    refine ⟨hs, ?_, ?_⟩
    · rw [show x - g.cx = (b.val : ℤ) - 60 by omega]; exact hb
    · rw [show y - g.cy = (a.val : ℤ) - 60 by omega]; exact ha
  · rintro ⟨hs, hb, ha⟩
    have := h.cx hs; have := h.cy hs
    refine ⟨⟨⟨⟨⟨x0, x1⟩, y0⟩, y1⟩, ?_, ?_⟩, hs⟩
    · rw [show (b.val : ℤ) - 60 = x - g.cx by omega]; exact hb
    · rw [show (a.val : ℤ) - 60 = y - g.cy by omega]; exact ha

/-- How much of a pixel the Gaussian covers. -/
theorem alpha_at (hop : g.op = (g.op.toReal : EReal)) (a b : Fin 121) (y x : ℤ) (hy : (s.main_v64_3 (ix1 j) : BitVec 32).toInt + ((a.val : ℤ) - 60) = y) (hx : (s.main_v64_2 (ix1 j) : BitVec 32).toInt + ((b.val : ℤ) - 60) = x)
    (y0 : 0 ≤ y) (y1 : y < 480) (x0 : 0 ≤ x) (x1 : x < 640) :
    b67 (F := Ideal) j.val s (ix2 a b) = ((g.alpha y x : ℝ) : EReal) := by
  have hm := mask_at h a b y x hy hx y0 y1 x0 x1
  have e20 : (FloatOps.sitofp (F := Ideal) FTy.f32 (b20 (F := Ideal) j.val s (ix2 a b)) : EReal) = ((x : ℝ) : EReal) :=
    congrArg (fun z : ℤ => ((z : ℝ) : EReal)) ((px_at h a b).trans hx)
  have e22 : (FloatOps.sitofp (F := Ideal) FTy.f32 (b22 (F := Ideal) j.val s (ix2 a b)) : EReal) = ((y : ℝ) : EReal) :=
    congrArg (fun z : ℤ => ((z : ℝ) : EReal)) ((py_at h a b).trans hy)
  have e47 : (FloatOps.uitofp (F := Ideal) FTy.f32 (b47 (F := Ideal) j.val s (ix2 a b)) : EReal) = if b47 (F := Ideal) j.val s (ix2 a b) = 1#1 then 1 else 0 := by
    generalize b47 (F := Ideal) j.val s (ix2 a b) = c
    rcases BitVec.eq_zero_or_eq_one c with rfl | rfl
    · show (((0#1).toNat : ℝ) : EReal) = _
      simp
    · show (((1#1).toNat : ℝ) : EReal) = _
      simp
  have := Gauss.ref_alpha hop y x _ hm
  rw [← this]
  pointwise [b67, b66, b65, b64, b63, b62, b61, b60, b59, b58, b57, b56, b55, b54, b53, b52, b51, b50, b49, b48]
  rw [e20, e22, e47, b1_at, b3_at, b11_at, b13_at, h.sx, h.sy, h.ss, h.op]

/-! ### The window in the image -/

omit h in
/-- Reading a window of the image. -/
theorem window_at {α : Type} (X : S3x600x760.Idx → α) (f : Fin 3 → ℤ) (hh) (u v : ℕ) (h0 : f 0 = 0) (h1 : f 1 = u) (h2 : f 2 = v) (hu : u ≤ 479) (hv : v ≤ 639)
    (ch : Fin 3) (a b : Fin 121) (y : Fin 600) (x : Fin 760) (hy : y.val = u + a.val) (hx : x.val = v + b.val) :
    Host.dynamicSlice S3x121x121 X f hh (ix3 ch a b) = X (ix3 ch y x) := by
  have e0 : Host.clampedStart S3x600x760 S3x121x121 hh.1 f 0 = 0 := Host.clampedStart_of_le hh.1 f 0 0 (by rw [h0]; rfl) (by show 0 + 3 ≤ 3; omega)
  have e1 : Host.clampedStart S3x600x760 S3x121x121 hh.1 f 1 = u := Host.clampedStart_of_le hh.1 f 1 u h1 (by show u + 121 ≤ 600; omega)
  have e2 : Host.clampedStart S3x600x760 S3x121x121 hh.1 f 2 = v := Host.clampedStart_of_le hh.1 f 2 v h2 (by show v + 121 ≤ 760; omega)
  unfold Host.dynamicSlice
  refine congrArg X (funext fun a' => ?_)
  match a' with
  | ⟨0, _⟩ =>
    apply Fin.ext
    show Host.clampedStart S3x600x760 S3x121x121 hh.1 f 0 + ch.val = ch.val
    omega
  | ⟨1, _⟩ =>
    apply Fin.ext
    show Host.clampedStart S3x600x760 S3x121x121 hh.1 f 1 + a.val = y.val
    omega
  | ⟨2, _⟩ =>
    apply Fin.ext
    show Host.clampedStart S3x600x760 S3x121x121 hh.1 f 2 + b.val = x.val
    omega

omit h in
/-- Writing a window of the image, at a pixel inside it. -/
theorem write_in {α : Type} (X : S3x600x760.Idx → α) (W : S3x121x121.Idx → α) (f : Fin 3 → ℤ) (hh) (u v : ℕ) (h0 : f 0 = 0) (h1 : f 1 = u) (h2 : f 2 = v) (hu : u ≤ 479) (hv : v ≤ 639)
    (ch : Fin 3) (a b : Fin 121) (y : Fin 600) (x : Fin 760) (hy : y.val = u + a.val) (hx : x.val = v + b.val) :
    Host.dynamicUpdateSlice X W f hh (ix3 ch y x) = W (ix3 ch a b) := by
  have e0 : Host.clampedStart S3x600x760 S3x121x121 hh.1 f 0 = 0 := Host.clampedStart_of_le hh.1 f 0 0 (by rw [h0]; rfl) (by show 0 + 3 ≤ 3; omega)
  have e1 : Host.clampedStart S3x600x760 S3x121x121 hh.1 f 1 = u := Host.clampedStart_of_le hh.1 f 1 u h1 (by show u + 121 ≤ 600; omega)
  have e2 : Host.clampedStart S3x600x760 S3x121x121 hh.1 f 2 = v := Host.clampedStart_of_le hh.1 f 2 v h2 (by show v + 121 ≤ 760; omega)
  unfold Host.dynamicUpdateSlice updateSlice
  rw [dif_pos]
  · refine congrArg W (funext fun a' => ?_)
    match a' with
    | ⟨0, _⟩ =>
      apply Fin.ext
      show ch.val - Host.clampedStart S3x600x760 S3x121x121 hh.1 f 0 = ch.val
      omega
    | ⟨1, _⟩ =>
      apply Fin.ext
      show y.val - Host.clampedStart S3x600x760 S3x121x121 hh.1 f 1 = a.val
      omega
    | ⟨2, _⟩ =>
      apply Fin.ext
      show x.val - Host.clampedStart S3x600x760 S3x121x121 hh.1 f 2 = b.val
      omega
  · intro a'
    match a' with
    | ⟨0, _⟩ =>
      show Host.clampedStart S3x600x760 S3x121x121 hh.1 f 0 ≤ ch.val ∧ ch.val < Host.clampedStart S3x600x760 S3x121x121 hh.1 f 0 + 3
      omega
    | ⟨1, _⟩ =>
      show Host.clampedStart S3x600x760 S3x121x121 hh.1 f 1 ≤ y.val ∧ y.val < Host.clampedStart S3x600x760 S3x121x121 hh.1 f 1 + 121
      omega
    | ⟨2, _⟩ =>
      show Host.clampedStart S3x600x760 S3x121x121 hh.1 f 2 ≤ x.val ∧ x.val < Host.clampedStart S3x600x760 S3x121x121 hh.1 f 2 + 121
      omega

omit h in
/-- Writing a window of the image, at a pixel outside it. -/
theorem write_out {α : Type} (X : S3x600x760.Idx → α) (W : S3x121x121.Idx → α) (f : Fin 3 → ℤ) (hh) (u v : ℕ) (h1 : f 1 = u) (h2 : f 2 = v) (hu : u ≤ 479) (hv : v ≤ 639)
    (ch : Fin 3) (y : Fin 600) (x : Fin 760) (ho : ¬ ((u ≤ y.val ∧ y.val < u + 121) ∧ v ≤ x.val ∧ x.val < v + 121)) :
    Host.dynamicUpdateSlice X W f hh (ix3 ch y x) = X (ix3 ch y x) := by
  have e1 : Host.clampedStart S3x600x760 S3x121x121 hh.1 f 1 = u := Host.clampedStart_of_le hh.1 f 1 u h1 (by show u + 121 ≤ 600; omega)
  have e2 : Host.clampedStart S3x600x760 S3x121x121 hh.1 f 2 = v := Host.clampedStart_of_le hh.1 f 2 v h2 (by show v + 121 ≤ 760; omega)
  unfold Host.dynamicUpdateSlice updateSlice
  rw [dif_neg]
  intro hin
  have i1 : Host.clampedStart S3x600x760 S3x121x121 hh.1 f 1 ≤ y.val ∧ y.val < Host.clampedStart S3x600x760 S3x121x121 hh.1 f 1 + 121 := hin 1
  have i2 : Host.clampedStart S3x600x760 S3x121x121 hh.1 f 2 ≤ x.val ∧ x.val < Host.clampedStart S3x600x760 S3x121x121 hh.1 f 2 + 121 := hin 2
  rw [e1] at i1
  rw [e2] at i2
  exact ho ⟨i1, i2⟩

theorem row_start : (b80 (F := Ideal) j.val s ix0).toInt = (s.main_v64_3 (ix1 j) : BitVec 32).toInt := by
  have hy := h.yi
  pointwise [b80, b79, b77, b78, b76]
  rw [b7_at, WordCmp.cmpi_slt_eq, WordCmp.select_of_eq_zero]
  show BitVec.ofBool (decide (_ < (0 : ℤ))) = 0#1
  rw [decide_eq_false (by omega)]; rfl
theorem col_start : (b85 (F := Ideal) j.val s ix0).toInt = (s.main_v64_2 (ix1 j) : BitVec 32).toInt := by
  have hx := h.xi
  pointwise [b85, b84, b82, b83, b81]
  rw [b5_at, WordCmp.cmpi_slt_eq, WordCmp.select_of_eq_zero]
  show BitVec.ofBool (decide (_ < (0 : ℤ))) = 0#1
  rw [decide_eq_false (by omega)]; rfl

/-- One trip at a pixel of the picture: the Gaussian is painted over what was there. -/
theorem trip_at (hop : g.op = (g.op.toReal : EReal)) (ch : Fin 3) (hcol : g.col ch = ((g.col ch).toReal : EReal)) (y x : ℕ) (y1 : y < 480) (x1 : x < 640)
    (Y : Fin 600) (X : Fin 760) (hY : Y.val = y + 60) (hX : X.val = x + 60) (z : ℝ) (hz : s.main_v64_12 (ix3 ch Y X) = (z : EReal)) :
    (step j.val s).main_v64_12 (ix3 ch Y X) = ((z * (1 - g.alpha y x) + (g.col ch).toReal * g.alpha y x : ℝ) : EReal) := by
  obtain ⟨u, hu⟩ := Int.eq_ofNat_of_zero_le h.yi.1
  obtain ⟨v, hv⟩ := Int.eq_ofNat_of_zero_le h.xi.1
  have hyi := h.yi
  have hxi := h.xi
  have hr := row_start h
  have hc := col_start h
  rw [hu] at hr hyi
  rw [hv] at hc hxi
  have hr' : (b80 (F := Ideal) j.val s (Shape.Idx.first h_S_)).toInt = u := by rw [← hr]; exact congrArg (fun i => (b80 (F := Ideal) j.val s i).toInt) (ix0_eta _).symm
  have hc' : (b85 (F := Ideal) j.val s (Shape.Idx.first h_S_)).toInt = v := by rw [← hc]; exact congrArg (fun i => (b85 (F := Ideal) j.val s i).toInt) (ix0_eta _).symm
  have hu' : u ≤ 479 := by omega
  have hv' : v ≤ 639 := by omega
  rw [step_main_v64_12]
  by_cases hin : (u ≤ Y.val ∧ Y.val < u + 121) ∧ v ≤ X.val ∧ X.val < v + 121
  · obtain ⟨a, ha⟩ : ∃ a : Fin 121, Y.val = u + a.val := ⟨⟨Y.val - u, by omega⟩, by show Y.val = u + (Y.val - u); omega⟩
    obtain ⟨b, hb⟩ : ∃ b : Fin 121, X.val = v + b.val := ⟨⟨X.val - v, by omega⟩, by show X.val = v + (X.val - v); omega⟩
    have e1 : b117 (F := Ideal) j.val s (ix3 ch Y X) = b98 (F := Ideal) j.val s (ix3 ch a b) :=
      write_in s.main_v64_12 _ _ _ u v (by rfl) hr' hc' hu' hv' ch a b Y X ha hb
    have e2 : b86 (F := Ideal) j.val s (ix3 ch a b) = (z : EReal) :=
      (window_at s.main_v64_12 _ _ u v (by rfl) hr' hc' hu' hv' ch a b Y X ha hb).trans hz
    have e3 := alpha_at h hop a b y x (by rw [hu]; omega) (by rw [hv]; omega) (by omega) (by omega) (by omega) (by omega)
    rw [e1]
    pointwise [b98, b97, b96, b95, b94, b93, b92, b91, b90, b89, b88, b87]
    rw [e2, e3, b16_at, h.col, hcol]
    push_cast
    rfl
  · have e1 : b117 (F := Ideal) j.val s (ix3 ch Y X) = s.main_v64_12 (ix3 ch Y X) :=
      write_out s.main_v64_12 _ _ _ u v hr' hc' hu' hv' ch Y X hin
    rw [e1, hz]
    have h0 : g.alpha y x = 0 := by
      by_cases hs : g.Seen
      · have hx' := h.cx hs
        have hy' := h.cy hs
        have := g.rd_le
        by_cases hyy : (u ≤ Y.val ∧ Y.val < u + 121)
        · exact Gauss.alpha_farx _ _ (by omega)
        · exact Gauss.alpha_far _ _ (by omega)
      · exact Gauss.alpha_unseen hs _ _
    rw [h0]; simp

end Cert.ReferenceIdeal.RefVal

end
-- ==== Proof.RefImage.lean ====
/- The reference's picture. -/
module

public import proofs.«01_k».proof.Proof.Gen.ReferenceIdeal.Step
public import proofs.«01_k».proof.Proof.RefTab
public import proofs.«01_k».proof.Proof.RefStep
public import proofs.«01_k».proof.Proof.Scene
public import Idealize.ShloMosaic.Lib.Pointwise
public import Idealize.ShloMosaic.Lib.WordArith
public import Idealize.ShloMosaic.Lib.WordCmp

@[expose] public section

set_option maxRecDepth 16384

noncomputable section

namespace Cert.ReferenceIdeal.RefVal

open Cert.ReferenceIdeal Cert.ReferenceIdeal.Gen Cert.ReferenceIdeal.Step Cert.Scene
open Idealize.ShloMosaic

theorem HoldsG.step {s : State Ideal} {k : Fin 2048} {g : Gauss} (h : HoldsG s k g) (n : ℕ) : HoldsG (Step.step n s) k g :=
  ⟨h.sx, h.sy, h.ss, h.op, h.col, h.ok, h.rd, h.xi, h.yi, h.cx, h.cy⟩

section
variable (g : ℕ → Gauss) (hop : ∀ k, (g k).op = ((g k).op.toReal : EReal)) (hcol : ∀ k ch, (g k).col ch = (((g k).col ch).toReal : EReal))
  (it : ℕ → State Ideal) (hg : ∀ k : Fin 2048, HoldsG (it 0) k (g k.val)) (hz : ∀ i, (it 0).main_v64_12 i = (0 : EReal))
  (hs : ∀ n, it (n + 1) = Step.step n (it n))

include hg hs in
theorem holds_all (n : ℕ) (k : Fin 2048) : HoldsG (it n) k (g k.val) := by
  induction n with
  | zero => exact hg k
  | succ n ih => rw [hs]; exact ih.step n

include hop hcol hg hz hs in
/-- A pixel of the padded image after some trips. -/
theorem pixel_after (ch : Fin 3) (y x : ℕ) (y1 : y < 480) (x1 : x < 640) (Y : Fin 600) (X : Fin 760) (hY : Y.val = y + 60) (hX : X.val = x + 60) :
    ∀ n : ℕ, n ≤ 2048 → (it n).main_v64_12 (ix3 ch Y X)
      = (((List.range n).foldl (over (fun k => (g k).alpha y x) (fun k => ((g k).col ch).toReal)) 0 : ℝ) : EReal)
  | 0, _ => by rw [hz]; rfl
  | n + 1, hn => by
    have ih := pixel_after ch y x y1 x1 Y X hY hX n (by omega)
    rw [hs, trip_at (j := ⟨n, by omega⟩) (holds_all g it hg hs n ⟨n, by omega⟩) (hop n) ch (hcol n ch) y x y1 x1 Y X hY hX _ ih,
      List.range_succ, List.foldl_append]
    rfl
end

/-- The picture starts black. -/
theorem init_zero (p sc co : FVec Ideal S2048x3 .f32) (op : FVec Ideal S2048 .f32) (q : FVec Ideal S4x4 .f32) (i : S3x600x760.Idx) :
    (init (F := Ideal) op co p sc q).main_v64_12 i = (0 : EReal) := by
  show K_main_v63 (F := Ideal) i = (0 : EReal)
  rw [show i = ix3 (i 0) (i 1) (i 2) from eq_ix3 i]
  pointwise [K_main_v63, K_main_cst_19]

/-- The reference's picture is the picture of its scene. -/
theorem picture_of_iter (g : ℕ → Gauss) (hop : ∀ k, (g k).op = ((g k).op.toReal : EReal)) (hcol : ∀ k ch, (g k).col ch = (((g k).col ch).toReal : EReal))
    (it : ℕ → State Ideal) (hg : ∀ k : Fin 2048, HoldsG (it 0) k (g k.val)) (hz : ∀ i, (it 0).main_v64_12 i = (0 : EReal))
    (hs : ∀ n, it (n + 1) = Step.step n (it n)) :
    R_main_v65 (it 2048) = (fun j : S3x480x640.Idx => (picture g (j 0) ((j 1).val : ℤ) ((j 2).val : ℤ) : EReal)) := by
  have key : ∀ (ch : Fin 3) (y : Fin 480) (x : Fin 640), R_main_v65 (it 2048) (ix3 ch y x) = (picture g ch (y.val : ℤ) (x.val : ℤ) : EReal) := by
    intro ch y x
    pointwise [R_main_v65]
    refine (pixel_after g hop hcol it hg hz hs ch y.val x.val y.isLt x.isLt _ _ ?_ ?_ 2048 le_rfl)
    · exact Nat.add_comm _ _
    · exact Nat.add_comm _ _
  funext j
  exact (congrArg (R_main_v65 (it 2048)) (eq_ix3 j)).trans (key (j 0) (j 1) (j 2))

end Cert.ReferenceIdeal.RefVal

end
-- ==== Proof.Pair.lean ====
/- The kernel and the reference draw one picture. -/
module

public import proofs.«01_k».proof.Defs
public import proofs.«01_k».proof.Proof.KIRun
public import proofs.«01_k».proof.Proof.KIValue
public import proofs.«01_k».proof.Proof.RefRun
public import proofs.«01_k».proof.Proof.RefImage
public import Idealize.ShloMosaic.Lib.Pointwise

@[expose] public section

set_option maxRecDepth 16384

noncomputable section

open Idealize.ShloMosaic Idealize.ShloMosaic.TcCoe Idealize.SL.Sem
open Cert.Scene

/-! ### What the precondition says -/

namespace Cert.Pre_colours_and_opacities_finite

theorem facts : Facts := ⟨by decide, by decide, by decide, by decide⟩

/-- An extended real of finite size is a real. -/
theorem real_of_abs {x : EReal} (h : max x (-x) < ⊤) : x = (x.toReal : EReal) := by
  induction x with
  | bot => simp at h
  | top => simp at h
  | coe r => rfl

theorem finite [Facts] (a0 a1 : FVec Ideal S2048x3 .f32) (a2 : FVec Ideal S2048x4 .f32) (a3 : FVec Ideal S2048x3 .f32) (a4 : FVec Ideal S2048 .f32) (a5 : FVec Ideal S4x4 .f32)
    (h : fn (F := Ideal) a0 a1 a2 a3 a4 a5 = fun _ => 1#1) (k : Fin 2048) :
    (a4 (ix1 k) : EReal) = ((a4 (ix1 k) : EReal).toReal : EReal) ∧ ∀ ch : Fin 3, (a3 (ix2 k ch) : EReal) = ((a3 (ix2 k ch) : EReal).toReal : EReal) := by
  have key : ∀ ch : Fin 3, (a3 (ix2 k ch) : EReal) = ((a3 (ix2 k ch) : EReal).toReal : EReal) ∧ (a4 (ix1 k) : EReal) = ((a4 (ix1 k) : EReal).toReal : EReal) := by
    intro ch
    have hk := congrFun h (ix2 k ch)
    revert hk
    pointwise [fn]
    intro hk
    rw [bit_and, ofBool_iff, ofBool_iff, decide_eq_true_eq, decide_eq_true_eq, wTop] at hk
    exact ⟨real_of_abs hk.1, real_of_abs hk.2⟩
  exact ⟨(key 0).2, fun ch => (key ch).1⟩

end Cert.Pre_colours_and_opacities_finite

/-! ### The kernel's run -/

namespace Cert.KernelIdeal.Hand

open Cert.KernelIdeal Cert.KernelIdeal.Gen

variable (m : (ℓ : Loc nD τ sig) → Buf (Elt Ideal) ℓ) (ρ : Dev nD → PrngReg)

/-- The scene in the kernel's memory. -/
def kScene (c : Dev nD) (k : ℕ) : Gauss :=
  sceneOf (fun n a => camOf (m ((c.tc : Thread nD τ).loc main_arg0)) (m ((c.tc : Thread nD τ).loc main_arg5)) (ValueIdx.ix2 n a))
    (fun n a => (m ((c.tc : Thread nD τ).loc main_arg1) : S2048x3.Idx → EReal) (ValueIdx.ix2 n a)) (fun n a => (m ((c.tc : Thread nD τ).loc main_arg3) : S2048x3.Idx → EReal) (ValueIdx.ix2 n a))
    (fun n => (m ((c.tc : Thread nD τ).loc main_arg4) : S2048.Idx → EReal) (ValueIdx.ix1 n)) k

theorem gN_gin (c : Dev nD) : gN (gin m c) = kScene m c := by
  funext k
  rw [gin_eq, V_inputs, gN_inputs]
  rfl

/-- The kernel leaves the picture of the scene in its memory, and its arguments as they were. -/
theorem picture_run (hop : ∀ c k, (kScene m c k).op = ((kScene m c k).op.toReal : EReal))
    (hcol : ∀ c k ch, (kScene m c k).col ch = (((kScene m c k).col ch).toReal : EReal)) :
    θ_run defs (onTc (τ := τ) (main (F := Ideal))) ⟨m, fun _ => 0, ρ⟩ (fun r => ∀ c : Dev nD,
      r.2.mem ((c.tc : Thread nD τ).loc main_v14) = (fun j : S3x480x640.Idx => (picture (kScene m c) (j 0) ((j 1).val : ℤ) ((j 2).val : ℤ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 1).trans ((image_eq m c (by rw [gN_gin]; exact hop c) (by rw [gN_gin]; exact hcol c)).trans (by rw [gN_gin])),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.KernelIdeal.Hand

/-! ### The reference's run -/

namespace Cert.ReferenceIdeal.RefVal

open Cert.ReferenceIdeal Cert.ReferenceIdeal.Gen

variable (m : (ℓ : Loc nD τ sig) → Buf (Elt Ideal) ℓ) (ρ : Dev nD → PrngReg)

/-- The scene in the reference's memory. -/
def rScene (c : Dev nD) : ℕ → Gauss :=
  refScene (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg5))

/-- The states of the reference's loop. -/
def states (c : Dev nD) : ℕ → Step.State Ideal
  | 0 => RefRun.initState m c
  | n + 1 => Step.step n (states c n)

/-- The reference leaves the picture of the scene in its memory, and its arguments as they were. -/
theorem picture_run (hop : ∀ c k, (rScene m c k).op = ((rScene m c k).op.toReal : EReal))
    (hcol : ∀ c k ch, (rScene m c k).col ch = (((rScene m c k).col ch).toReal : EReal)) :
    θ_run (defs (F := Ideal)) (onTc (τ := τ) (main (F := Ideal))) ⟨m, fun _ => 0, ρ⟩ (fun r => ∀ c : Dev nD,
      r.2.mem ((c.tc : Thread nD τ).loc main_v65) = (fun j : S3x480x640.Idx => (picture (rScene m c) (j 0) ((j 1).val : ℤ) ((j 2).val : ℤ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨(h c).1.trans (picture_of_iter (rScene m c) (hop c) (hcol c) (states m c)
      (fun k => holds_init _ _ _ _ _ k) (fun i => init_zero _ _ _ _ _ i) (fun _ => rfl)), (h c).2⟩)
    (RefRun.run_iter m ρ (states m) (fun _ => rfl) (fun _ _ => rfl))

end Cert.ReferenceIdeal.RefVal

/-! ### Both -/

namespace Cert.Pair

/-- From memories that agree on the arguments the kernel and the reference leave one picture, when every colour and
    opacity is finite. -/
theorem algebraic : Cert.algebraic_KernelIdeal_ReferenceIdeal_pre_colours_and_opacities_finite (hKernelIdeal := Cert.KernelIdeal.Gen.facts)
    (hReferenceIdeal := Cert.ReferenceIdeal.Gen.facts) (hPre_colours_and_opacities_finite := Cert.Pre_colours_and_opacities_finite.facts) := by
  intro m g m' g' hpre hag
  letI := Cert.Pre_colours_and_opacities_finite.facts
  have hfin := fun c => Cert.Pre_colours_and_opacities_finite.finite _ _ _ _ _ _ (hpre c)
  have hop : ∀ c k, (Cert.KernelIdeal.Hand.kScene m c k).op = ((Cert.KernelIdeal.Hand.kScene m c k).op.toReal : EReal) :=
    fun c k => (hfin c ⟨k % 2048, Nat.mod_lt _ (by decide)⟩).1
  have hcol : ∀ c k ch, (Cert.KernelIdeal.Hand.kScene m c k).col ch = (((Cert.KernelIdeal.Hand.kScene m c k).col ch).toReal : EReal) :=
    fun c k ch => (hfin c ⟨k % 2048, Nat.mod_lt _ (by decide)⟩).2 ch
  have hsame : ∀ c, Cert.ReferenceIdeal.RefVal.rScene m' c = Cert.KernelIdeal.Hand.kScene m c := by
    intro c
    obtain ⟨h0, h1, -, h3, h4, h5⟩ := hag c
    unfold Cert.ReferenceIdeal.RefVal.rScene
    rw [h0, h1, h3, h4, h5]
    rfl
  refine ⟨_, Cert.KernelIdeal.Hand.picture_run m g hop hcol, ?_⟩
  have hr := Cert.ReferenceIdeal.RefVal.picture_run m' g' (fun c => by rw [hsame]; exact hop c) (fun c => by rw [hsame]; exact hcol c)
  simp only [hsame] at hr
  exact hr

end Cert.Pair

end
-- ==== Proof.lean ====
/- The proof of the claim: the kernel's and the reference's runs, and the picture that both leave. -/
module

public import proofs.«01_k».proof.Defs
public import proofs.«01_k».proof.Proof.KRun
public import proofs.«01_k».proof.Proof.KIRun
public import proofs.«01_k».proof.Proof.RefRun
public import proofs.«01_k».proof.Proof.Pair
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel leaves its arguments as they were and every semaphore at zero. -/
theorem quiescent_kernel : Cert.quiescent_Kernel (hKernel := Cert.Kernel.Gen.facts) := fun m g _ => Cert.Kernel.Hand.frame_run m g

/-- So does the kernel read at the extended reals. -/
theorem quiescent_kernelIdeal : Cert.quiescent_KernelIdeal (hKernelIdeal := Cert.KernelIdeal.Gen.facts) := fun m g _ => Cert.KernelIdeal.Hand.frame_run m g

/-- So does the reference, which has no semaphore at all. -/
theorem quiescent_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem claim : Cert.Claim :=
  ⟨Cert.Kernel.Gen.facts, Cert.KernelIdeal.Gen.facts, Cert.ReferenceIdeal.Gen.facts, Cert.Pre_colours_and_opacities_finite.facts,
    quiescent_kernel, quiescent_kernelIdeal, fun m g _ => quiescent_kernelIdeal m g trivial, quiescent_referenceIdeal,
    fun m g _ => quiescent_referenceIdeal m g trivial, trivial, Cert.Pair.algebraic⟩

end Cert.Proof

end
